-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "cells_per_mm" .f32 0x3F844444#32 ((31 / 30 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_v333) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16x128x32x32 : Shape := ⟨5, ![8, 16, 128, 32, 32]⟩
abbrev S8x32x32x2 : Shape := ⟨4, ![8, 32, 32, 2]⟩
abbrev S8x16x32x32x128 : Shape := ⟨5, ![8, 16, 32, 32, 128]⟩
abbrev S8x16x1024x128 : Shape := ⟨4, ![8, 16, 1024, 128]⟩
abbrev S8x32x32x1 : Shape := ⟨4, ![8, 32, 32, 1]⟩
abbrev S8x32x32 : Shape := ⟨3, ![8, 32, 32]⟩
abbrev S8x1x1024 : Shape := ⟨3, ![8, 1, 1024]⟩
abbrev S8x8x1024 : Shape := ⟨3, ![8, 8, 1024]⟩
abbrev S1x1x1024 : Shape := ⟨3, ![1, 1, 1024]⟩
abbrev S1x4x1024x128 : Shape := ⟨4, ![1, 4, 1024, 128]⟩
abbrev S1x8x1024 : Shape := ⟨3, ![1, 8, 1024]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩
abbrev S1024x1 : Shape := ⟨2, ![1024, 1]⟩
abbrev S1x1x1024x128 : Shape := ⟨4, ![1, 1, 1024, 128]⟩
abbrev S1024x128 : Shape := ⟨2, ![1024, 128]⟩
abbrev S8x1x1x32x32 : Shape := ⟨5, ![8, 1, 1, 32, 32]⟩
abbrev S8x16x1x32x32 : Shape := ⟨5, ![8, 16, 1, 32, 32]⟩

abbrev nBuf : Space → Nat
  | .hbm => 18
  | .vmem => 12
  | .smem => 0
  | _ => 0

abbrev bufTy : (tb : Table) → Fin (tcTables nBuf tb) → BufTy
  | .hbm, ⟨0, _⟩ => ⟨S8x16x128x32x32, .f32⟩
  | .hbm, ⟨1, _⟩ => ⟨S8x32x32x2, .f32⟩
  | .hbm, ⟨2, _⟩ => ⟨S8x16x32x32x128, .f32⟩
  | .hbm, ⟨3, _⟩ => ⟨S8x16x1024x128, .f32⟩
  | .hbm, ⟨4, _⟩ => ⟨S8x32x32x1, .f32⟩
  | .hbm, ⟨5, _⟩ => ⟨S8x32x32, .f32⟩
  | .hbm, ⟨6, _⟩ => ⟨S8x1x1024, .f32⟩
  | .hbm, ⟨7, _⟩ => ⟨S8x32x32x1, .f32⟩
  | .hbm, ⟨8, _⟩ => ⟨S8x32x32, .f32⟩
  | .hbm, ⟨9, _⟩ => ⟨S8x1x1024, .f32⟩
  | .hbm, ⟨10, _⟩ => ⟨S8x16x1024x128, .f32⟩
  | .hbm, ⟨11, _⟩ => ⟨S8x8x1024, .f32⟩
  | .hbm, ⟨12, _⟩ => ⟨S8x16x32x32x128, .f32⟩
  | .hbm, ⟨13, _⟩ => ⟨S8x16x128x32x32, .f32⟩
  | .hbm, ⟨14, _⟩ => ⟨S8x1x1024, .f32⟩
  | .hbm, ⟨15, _⟩ => ⟨S8x1024, .f32⟩
  | .hbm, ⟨16, _⟩ => ⟨S8x1x1x32x32, .f32⟩
  | .hbm, ⟨17, _⟩ => ⟨S8x16x1x32x32, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x4x1024x128, .f32⟩
  | .local _ .vmem, ⟨5, _⟩ => ⟨S1x4x1024x128, .f32⟩
  | .local _ .vmem, ⟨6, _⟩ => ⟨S1x4x1024x128, .f32⟩
  | .local _ .vmem, ⟨7, _⟩ => ⟨S1x4x1024x128, .f32⟩
  | .local _ .vmem, ⟨8, _⟩ => ⟨S1x8x1024, .f32⟩
  | .local _ .vmem, ⟨9, _⟩ => ⟨S1x8x1024, .f32⟩
  | .local _ .vmem, ⟨10, _⟩ => ⟨S1024x1024, .bf16⟩
  | .local _ .vmem, ⟨11, _⟩ => ⟨S8x1024, .f32⟩
  | _, _ => ⟨S8x16x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "cells_per_mm" => some ((31 / 30 : ℝ) : EReal)
  | _ => none
-- ==== ReferenceIdeal.lean ====
abbrev S8x16x128x32x32 : Shape := ⟨5, ![8, 16, 128, 32, 32]⟩
abbrev S8x32x32x2 : Shape := ⟨4, ![8, 32, 32, 2]⟩
abbrev S8x32x32x1 : Shape := ⟨4, ![8, 32, 32, 1]⟩
abbrev S8x32x32 : Shape := ⟨3, ![8, 32, 32]⟩
abbrev S_ : Shape := ⟨0, ![]⟩
abbrev S8x16x128x1024 : Shape := ⟨4, ![8, 16, 128, 1024]⟩
abbrev S128x128x1024 : Shape := ⟨3, ![128, 128, 1024]⟩
abbrev S128x1x1024 : Shape := ⟨3, ![128, 1, 1024]⟩
abbrev S128 : Shape := ⟨1, ![128]⟩
abbrev S128x1x1 : Shape := ⟨3, ![128, 1, 1]⟩
abbrev S1x128x1 : Shape := ⟨3, ![1, 128, 1]⟩
abbrev S128x1 : Shape := ⟨2, ![128, 1]⟩
abbrev S8x1024 : Shape := ⟨2, ![8, 1024]⟩
abbrev S8x1x1024 : Shape := ⟨3, ![8, 1, 1024]⟩
abbrev S8x16x1024 : Shape := ⟨3, ![8, 16, 1024]⟩
abbrev S128x1024 : Shape := ⟨2, ![128, 1024]⟩
abbrev S128x128x1024x1 : Shape := ⟨4, ![128, 128, 1024, 1]⟩
abbrev S128x128x1024x3 : Shape := ⟨4, ![128, 128, 1024, 3]⟩
abbrev S128x1024x1 : Shape := ⟨3, ![128, 1024, 1]⟩
abbrev S128x1024x3 : Shape := ⟨3, ![128, 1024, 3]⟩
abbrev S8x16x1x32x32 : Shape := ⟨5, ![8, 16, 1, 32, 32]⟩

abbrev nBuf : Space → Nat
  | .hbm => 471
  | .vmem => 0
  | .smem => 0
  | _ => 0

abbrev hbmTy0_0 (i : Nat) : BufTy := match i % 128 with
  | 0 => ⟨S8x16x128x32x32, .f32⟩
  | 1 => ⟨S8x32x32x2, .f32⟩
  | 2 => ⟨S8x32x32x1, .f32⟩
  | 3 => ⟨S8x32x32, .f32⟩
  | 4 => ⟨S_, .f32⟩
  | 5 => ⟨S8x32x32, .f32⟩
  | 6 => ⟨S8x32x32, .f32⟩
  | 7 => ⟨S_, .f32⟩
  | 8 => ⟨S8x32x32, .f32⟩
  | 9 => ⟨S8x32x32, .f32⟩
  | 10 => ⟨S_, .f32⟩
  | 11 => ⟨S8x32x32, .f32⟩
  | 12 => ⟨S8x32x32, .f32⟩
  | 13 => ⟨S8x32x32x1, .f32⟩
  | 14 => ⟨S8x32x32, .f32⟩
  | 15 => ⟨S_, .f32⟩
  | 16 => ⟨S8x32x32, .f32⟩
  | 17 => ⟨S8x32x32, .f32⟩
  | 18 => ⟨S_, .f32⟩
  | 19 => ⟨S8x32x32, .f32⟩
  | 20 => ⟨S8x32x32, .f32⟩
  | 21 => ⟨S_, .f32⟩
  | 22 => ⟨S8x32x32, .f32⟩
  | 23 => ⟨S8x32x32, .f32⟩
  | 24 => ⟨S8x32x32, .f32⟩
  | 25 => ⟨S8x32x32, .f32⟩
  | 26 => ⟨S_, .f32⟩
  | 27 => ⟨S8x32x32, .f32⟩
  | 28 => ⟨S8x32x32, .f32⟩
  | 29 => ⟨S_, .f32⟩
  | 30 => ⟨S8x32x32, .f32⟩
  | 31 => ⟨S8x32x32, .f32⟩
  | 32 => ⟨S8x32x32, .f32⟩
  | 33 => ⟨S8x32x32, .f32⟩
  | 34 => ⟨S_, .f32⟩
  | 35 => ⟨S8x32x32, .f32⟩
  | 36 => ⟨S8x32x32, .f32⟩
  | 37 => ⟨S_, .f32⟩
  | 38 => ⟨S8x32x32, .f32⟩
  | 39 => ⟨S8x32x32, .f32⟩
  | 40 => ⟨S8x32x32, .f32⟩
  | 41 => ⟨S8x32x32, .f32⟩
  | 42 => ⟨S8x32x32, .f32⟩
  | 43 => ⟨S8x32x32, .f32⟩
  | 44 => ⟨S8x16x128x1024, .f32⟩
  | 45 => ⟨S_, .f32⟩
  | 46 => ⟨S128x128x1024, .f32⟩
  | 47 => ⟨S_, .f32⟩
  | 48 => ⟨S128x1x1024, .f32⟩
  | 49 => ⟨S128, .i32⟩
  | 50 => ⟨S128x1x1, .i32⟩
  | 51 => ⟨S128, .i32⟩
  | 52 => ⟨S1x128x1, .i32⟩
  | 53 => ⟨S128, .i32⟩
  | 54 => ⟨S128x1, .i32⟩
  | 55 => ⟨S_, .f32⟩
  | 56 => ⟨S8x32x32, .f32⟩
  | 57 => ⟨S8x32x32, .i1⟩
  | 58 => ⟨S_, .f32⟩
  | 59 => ⟨S8x32x32, .f32⟩
  | 60 => ⟨S8x32x32, .i1⟩
  | 61 => ⟨S8x32x32, .i1⟩
  | 62 => ⟨S_, .f32⟩
  | 63 => ⟨S8x32x32, .f32⟩
  | 64 => ⟨S8x32x32, .i1⟩
  | 65 => ⟨S8x32x32, .i1⟩
  | 66 => ⟨S_, .f32⟩
  | 67 => ⟨S8x32x32, .f32⟩
  | 68 => ⟨S8x32x32, .i1⟩
  | 69 => ⟨S8x32x32, .i1⟩
  | 70 => ⟨S8x32x32, .f32⟩
  | 71 => ⟨S_, .i32⟩
  | 72 => ⟨S_, .i32⟩
  | 73 => ⟨S_, .f32⟩
  | 74 => ⟨S8x32x32, .f32⟩
  | 75 => ⟨S8x32x32, .f32⟩
  | 76 => ⟨S_, .f32⟩
  | 77 => ⟨S8x32x32, .f32⟩
  | 78 => ⟨S8x32x32, .f32⟩
  | 79 => ⟨S_, .f32⟩
  | 80 => ⟨S8x32x32, .f32⟩
  | 81 => ⟨S8x32x32, .f32⟩
  | 82 => ⟨S_, .i32⟩
  | 83 => ⟨S_, .i32⟩
  | 84 => ⟨S_, .f32⟩
  | 85 => ⟨S8x32x32, .f32⟩
  | 86 => ⟨S8x32x32, .f32⟩
  | 87 => ⟨S_, .f32⟩
  | 88 => ⟨S8x32x32, .f32⟩
  | 89 => ⟨S8x32x32, .f32⟩
  | 90 => ⟨S8x32x32, .f32⟩
  | 91 => ⟨S8x32x32, .i32⟩
  | 92 => ⟨S8x1024, .i32⟩
  | 93 => ⟨S8x1x1024, .i32⟩
  | 94 => ⟨S8x16x1024, .i32⟩
  | 95 => ⟨S128x1024, .i32⟩
  | 96 => ⟨S8x32x32, .f32⟩
  | 97 => ⟨S8x1x1024, .f32⟩
  | 98 => ⟨S8x16x1024, .f32⟩
  | 99 => ⟨S128x1024, .f32⟩
  | 100 => ⟨S128x128x1024, .f32⟩
  | 101 => ⟨S128x1x1024, .f32⟩
  | 102 => ⟨S128x128x1024, .f32⟩
  | 103 => ⟨S128x128x1024, .f32⟩
  | 104 => ⟨S128x1x1024, .i32⟩
  | 105 => ⟨S_, .i32⟩
  | 106 => ⟨S128x1x1, .i32⟩
  | 107 => ⟨S128x1x1, .i1⟩
  | 108 => ⟨S_, .i32⟩
  | 109 => ⟨S128x1x1, .i32⟩
  | 110 => ⟨S128x1x1, .i32⟩
  | 111 => ⟨S128x1x1, .i32⟩
  | 112 => ⟨S_, .i32⟩
  | 113 => ⟨S1x128x1, .i32⟩
  | 114 => ⟨S1x128x1, .i1⟩
  | 115 => ⟨S_, .i32⟩
  | 116 => ⟨S1x128x1, .i32⟩
  | 117 => ⟨S1x128x1, .i32⟩
  | 118 => ⟨S1x128x1, .i32⟩
  | 119 => ⟨S_, .i32⟩
  | 120 => ⟨S128x1x1024, .i32⟩
  | 121 => ⟨S128x1x1024, .i1⟩
  | 122 => ⟨S_, .i32⟩
  | 123 => ⟨S128x1x1024, .i32⟩
  | 124 => ⟨S128x1x1024, .i32⟩
  | 125 => ⟨S128x1x1024, .i32⟩
  | 126 => ⟨S128x128x1024, .i32⟩
  | 127 => ⟨S128x128x1024, .i32⟩
  | _ => ⟨S8x16x128x32x32, .f32⟩

abbrev hbmTy0_1 (i : Nat) : BufTy := match i % 128 with
  | 0 => ⟨S128x128x1024, .i32⟩
  | 1 => ⟨S128x128x1024x1, .i32⟩
  | 2 => ⟨S128x128x1024x1, .i32⟩
  | 3 => ⟨S128x128x1024x1, .i32⟩
  | 4 => ⟨S128x128x1024x3, .i32⟩
  | 5 => ⟨S128x128x1024, .f32⟩
  | 6 => ⟨S_, .i32⟩
  | 7 => ⟨S128x1, .i32⟩
  | 8 => ⟨S128x1, .i1⟩
  | 9 => ⟨S_, .i32⟩
  | 10 => ⟨S128x1, .i32⟩
  | 11 => ⟨S128x1, .i32⟩
  | 12 => ⟨S128x1, .i32⟩
  | 13 => ⟨S_, .i32⟩
  | 14 => ⟨S128x1024, .i32⟩
  | 15 => ⟨S128x1024, .i1⟩
  | 16 => ⟨S_, .i32⟩
  | 17 => ⟨S128x1024, .i32⟩
  | 18 => ⟨S128x1024, .i32⟩
  | 19 => ⟨S128x1024, .i32⟩
  | 20 => ⟨S128x1024, .i32⟩
  | 21 => ⟨S_, .i32⟩
  | 22 => ⟨S128x1024, .i32⟩
  | 23 => ⟨S128x1024, .i32⟩
  | 24 => ⟨S128x1024x1, .i32⟩
  | 25 => ⟨S128x1024x1, .i32⟩
  | 26 => ⟨S128x1024x1, .i32⟩
  | 27 => ⟨S128x1024x3, .i32⟩
  | 28 => ⟨S128x1x1024, .f32⟩
  | 29 => ⟨S_, .f32⟩
  | 30 => ⟨S8x32x32, .f32⟩
  | 31 => ⟨S8x32x32, .i1⟩
  | 32 => ⟨S_, .f32⟩
  | 33 => ⟨S8x32x32, .f32⟩
  | 34 => ⟨S8x32x32, .i1⟩
  | 35 => ⟨S8x32x32, .i1⟩
  | 36 => ⟨S_, .f32⟩
  | 37 => ⟨S8x32x32, .f32⟩
  | 38 => ⟨S8x32x32, .i1⟩
  | 39 => ⟨S8x32x32, .i1⟩
  | 40 => ⟨S_, .f32⟩
  | 41 => ⟨S8x32x32, .f32⟩
  | 42 => ⟨S8x32x32, .i1⟩
  | 43 => ⟨S8x32x32, .i1⟩
  | 44 => ⟨S8x32x32, .f32⟩
  | 45 => ⟨S_, .i32⟩
  | 46 => ⟨S_, .i32⟩
  | 47 => ⟨S_, .f32⟩
  | 48 => ⟨S8x32x32, .f32⟩
  | 49 => ⟨S8x32x32, .f32⟩
  | 50 => ⟨S_, .f32⟩
  | 51 => ⟨S8x32x32, .f32⟩
  | 52 => ⟨S8x32x32, .f32⟩
  | 53 => ⟨S_, .f32⟩
  | 54 => ⟨S8x32x32, .f32⟩
  | 55 => ⟨S8x32x32, .f32⟩
  | 56 => ⟨S_, .i32⟩
  | 57 => ⟨S_, .i32⟩
  | 58 => ⟨S_, .f32⟩
  | 59 => ⟨S8x32x32, .f32⟩
  | 60 => ⟨S8x32x32, .f32⟩
  | 61 => ⟨S_, .f32⟩
  | 62 => ⟨S8x32x32, .f32⟩
  | 63 => ⟨S8x32x32, .f32⟩
  | 64 => ⟨S8x32x32, .f32⟩
  | 65 => ⟨S8x32x32, .i32⟩
  | 66 => ⟨S8x1024, .i32⟩
  | 67 => ⟨S8x1x1024, .i32⟩
  | 68 => ⟨S8x16x1024, .i32⟩
  | 69 => ⟨S128x1024, .i32⟩
  | 70 => ⟨S8x32x32, .f32⟩
  | 71 => ⟨S8x1x1024, .f32⟩
  | 72 => ⟨S8x16x1024, .f32⟩
  | 73 => ⟨S128x1024, .f32⟩
  | 74 => ⟨S128x128x1024, .f32⟩
  | 75 => ⟨S128x1x1024, .f32⟩
  | 76 => ⟨S128x128x1024, .f32⟩
  | 77 => ⟨S128x128x1024, .f32⟩
  | 78 => ⟨S128x1x1024, .i32⟩
  | 79 => ⟨S_, .i32⟩
  | 80 => ⟨S128x1x1, .i32⟩
  | 81 => ⟨S128x1x1, .i1⟩
  | 82 => ⟨S_, .i32⟩
  | 83 => ⟨S128x1x1, .i32⟩
  | 84 => ⟨S128x1x1, .i32⟩
  | 85 => ⟨S128x1x1, .i32⟩
  | 86 => ⟨S_, .i32⟩
  | 87 => ⟨S1x128x1, .i32⟩
  | 88 => ⟨S1x128x1, .i1⟩
  | 89 => ⟨S_, .i32⟩
  | 90 => ⟨S1x128x1, .i32⟩
  | 91 => ⟨S1x128x1, .i32⟩
  | 92 => ⟨S1x128x1, .i32⟩
  | 93 => ⟨S_, .i32⟩
  | 94 => ⟨S128x1x1024, .i32⟩
  | 95 => ⟨S128x1x1024, .i1⟩
  | 96 => ⟨S_, .i32⟩
  | 97 => ⟨S128x1x1024, .i32⟩
  | 98 => ⟨S128x1x1024, .i32⟩
  | 99 => ⟨S128x1x1024, .i32⟩
  | 100 => ⟨S128x128x1024, .i32⟩
  | 101 => ⟨S128x128x1024, .i32⟩
  | 102 => ⟨S128x128x1024, .i32⟩
  | 103 => ⟨S128x128x1024x1, .i32⟩
  | 104 => ⟨S128x128x1024x1, .i32⟩
  | 105 => ⟨S128x128x1024x1, .i32⟩
  | 106 => ⟨S128x128x1024x3, .i32⟩
  | 107 => ⟨S128x128x1024, .f32⟩
  | 108 => ⟨S_, .i32⟩
  | 109 => ⟨S128x1, .i32⟩
  | 110 => ⟨S128x1, .i1⟩
  | 111 => ⟨S_, .i32⟩
  | 112 => ⟨S128x1, .i32⟩
  | 113 => ⟨S128x1, .i32⟩
  | 114 => ⟨S128x1, .i32⟩
  | 115 => ⟨S_, .i32⟩
  | 116 => ⟨S128x1024, .i32⟩
  | 117 => ⟨S128x1024, .i1⟩
  | 118 => ⟨S_, .i32⟩
  | 119 => ⟨S128x1024, .i32⟩
  | 120 => ⟨S128x1024, .i32⟩
  | 121 => ⟨S128x1024, .i32⟩
  | 122 => ⟨S128x1024, .i32⟩
  | 123 => ⟨S_, .i32⟩
  | 124 => ⟨S128x1024, .i32⟩
  | 125 => ⟨S128x1024, .i32⟩
  | 126 => ⟨S128x1024x1, .i32⟩
  | 127 => ⟨S128x1024x1, .i32⟩
  | _ => ⟨S8x16x128x32x32, .f32⟩

abbrev hbmTy0_2 (i : Nat) : BufTy := match i % 128 with
  | 0 => ⟨S128x1024x1, .i32⟩
  | 1 => ⟨S128x1024x3, .i32⟩
  | 2 => ⟨S128x1x1024, .f32⟩
  | 3 => ⟨S_, .f32⟩
  | 4 => ⟨S8x32x32, .f32⟩
  | 5 => ⟨S8x32x32, .i1⟩
  | 6 => ⟨S_, .f32⟩
  | 7 => ⟨S8x32x32, .f32⟩
  | 8 => ⟨S8x32x32, .i1⟩
  | 9 => ⟨S8x32x32, .i1⟩
  | 10 => ⟨S_, .f32⟩
  | 11 => ⟨S8x32x32, .f32⟩
  | 12 => ⟨S8x32x32, .i1⟩
  | 13 => ⟨S8x32x32, .i1⟩
  | 14 => ⟨S_, .f32⟩
  | 15 => ⟨S8x32x32, .f32⟩
  | 16 => ⟨S8x32x32, .i1⟩
  | 17 => ⟨S8x32x32, .i1⟩
  | 18 => ⟨S8x32x32, .f32⟩
  | 19 => ⟨S_, .i32⟩
  | 20 => ⟨S_, .i32⟩
  | 21 => ⟨S_, .f32⟩
  | 22 => ⟨S8x32x32, .f32⟩
  | 23 => ⟨S8x32x32, .f32⟩
  | 24 => ⟨S_, .f32⟩
  | 25 => ⟨S8x32x32, .f32⟩
  | 26 => ⟨S8x32x32, .f32⟩
  | 27 => ⟨S_, .f32⟩
  | 28 => ⟨S8x32x32, .f32⟩
  | 29 => ⟨S8x32x32, .f32⟩
  | 30 => ⟨S_, .i32⟩
  | 31 => ⟨S_, .i32⟩
  | 32 => ⟨S_, .f32⟩
  | 33 => ⟨S8x32x32, .f32⟩
  | 34 => ⟨S8x32x32, .f32⟩
  | 35 => ⟨S_, .f32⟩
  | 36 => ⟨S8x32x32, .f32⟩
  | 37 => ⟨S8x32x32, .f32⟩
  | 38 => ⟨S8x32x32, .f32⟩
  | 39 => ⟨S8x32x32, .i32⟩
  | 40 => ⟨S8x1024, .i32⟩
  | 41 => ⟨S8x1x1024, .i32⟩
  | 42 => ⟨S8x16x1024, .i32⟩
  | 43 => ⟨S128x1024, .i32⟩
  | 44 => ⟨S8x32x32, .f32⟩
  | 45 => ⟨S8x1x1024, .f32⟩
  | 46 => ⟨S8x16x1024, .f32⟩
  | 47 => ⟨S128x1024, .f32⟩
  | 48 => ⟨S128x128x1024, .f32⟩
  | 49 => ⟨S128x1x1024, .f32⟩
  | 50 => ⟨S128x128x1024, .f32⟩
  | 51 => ⟨S128x128x1024, .f32⟩
  | 52 => ⟨S128x1x1024, .i32⟩
  | 53 => ⟨S_, .i32⟩
  | 54 => ⟨S128x1x1, .i32⟩
  | 55 => ⟨S128x1x1, .i1⟩
  | 56 => ⟨S_, .i32⟩
  | 57 => ⟨S128x1x1, .i32⟩
  | 58 => ⟨S128x1x1, .i32⟩
  | 59 => ⟨S128x1x1, .i32⟩
  | 60 => ⟨S_, .i32⟩
  | 61 => ⟨S1x128x1, .i32⟩
  | 62 => ⟨S1x128x1, .i1⟩
  | 63 => ⟨S_, .i32⟩
  | 64 => ⟨S1x128x1, .i32⟩
  | 65 => ⟨S1x128x1, .i32⟩
  | 66 => ⟨S1x128x1, .i32⟩
  | 67 => ⟨S_, .i32⟩
  | 68 => ⟨S128x1x1024, .i32⟩
  | 69 => ⟨S128x1x1024, .i1⟩
  | 70 => ⟨S_, .i32⟩
  | 71 => ⟨S128x1x1024, .i32⟩
  | 72 => ⟨S128x1x1024, .i32⟩
  | 73 => ⟨S128x1x1024, .i32⟩
  | 74 => ⟨S128x128x1024, .i32⟩
  | 75 => ⟨S128x128x1024, .i32⟩
  | 76 => ⟨S128x128x1024, .i32⟩
  | 77 => ⟨S128x128x1024x1, .i32⟩
  | 78 => ⟨S128x128x1024x1, .i32⟩
  | 79 => ⟨S128x128x1024x1, .i32⟩
  | 80 => ⟨S128x128x1024x3, .i32⟩
  | 81 => ⟨S128x128x1024, .f32⟩
  | 82 => ⟨S_, .i32⟩
  | 83 => ⟨S128x1, .i32⟩
  | 84 => ⟨S128x1, .i1⟩
  | 85 => ⟨S_, .i32⟩
  | 86 => ⟨S128x1, .i32⟩
  | 87 => ⟨S128x1, .i32⟩
  | 88 => ⟨S128x1, .i32⟩
  | 89 => ⟨S_, .i32⟩
  | 90 => ⟨S128x1024, .i32⟩
  | 91 => ⟨S128x1024, .i1⟩
  | 92 => ⟨S_, .i32⟩
  | 93 => ⟨S128x1024, .i32⟩
  | 94 => ⟨S128x1024, .i32⟩
  | 95 => ⟨S128x1024, .i32⟩
  | 96 => ⟨S128x1024, .i32⟩
  | 97 => ⟨S_, .i32⟩
  | 98 => ⟨S128x1024, .i32⟩
  | 99 => ⟨S128x1024, .i32⟩
  | 100 => ⟨S128x1024x1, .i32⟩
  | 101 => ⟨S128x1024x1, .i32⟩
  | 102 => ⟨S128x1024x1, .i32⟩
  | 103 => ⟨S128x1024x3, .i32⟩
  | 104 => ⟨S128x1x1024, .f32⟩
  | 105 => ⟨S_, .f32⟩
  | 106 => ⟨S8x32x32, .f32⟩
  | 107 => ⟨S8x32x32, .i1⟩
  | 108 => ⟨S_, .f32⟩
  | 109 => ⟨S8x32x32, .f32⟩
  | 110 => ⟨S8x32x32, .i1⟩
  | 111 => ⟨S8x32x32, .i1⟩
  | 112 => ⟨S_, .f32⟩
  | 113 => ⟨S8x32x32, .f32⟩
  | 114 => ⟨S8x32x32, .i1⟩
  | 115 => ⟨S8x32x32, .i1⟩
  | 116 => ⟨S_, .f32⟩
  | 117 => ⟨S8x32x32, .f32⟩
  | 118 => ⟨S8x32x32, .i1⟩
  | 119 => ⟨S8x32x32, .i1⟩
  | 120 => ⟨S8x32x32, .f32⟩
  | 121 => ⟨S_, .i32⟩
  | 122 => ⟨S_, .i32⟩
  | 123 => ⟨S_, .f32⟩
  | 124 => ⟨S8x32x32, .f32⟩
  | 125 => ⟨S8x32x32, .f32⟩
  | 126 => ⟨S_, .f32⟩
  | 127 => ⟨S8x32x32, .f32⟩
  | _ => ⟨S8x16x128x32x32, .f32⟩

abbrev hbmTy0_3 (i : Nat) : BufTy := match i % 128 with
  | 0 => ⟨S8x32x32, .f32⟩
  | 1 => ⟨S_, .f32⟩
  | 2 => ⟨S8x32x32, .f32⟩
  | 3 => ⟨S8x32x32, .f32⟩
  | 4 => ⟨S_, .i32⟩
  | 5 => ⟨S_, .i32⟩
  | 6 => ⟨S_, .f32⟩
  | 7 => ⟨S8x32x32, .f32⟩
  | 8 => ⟨S8x32x32, .f32⟩
  | 9 => ⟨S_, .f32⟩
  | 10 => ⟨S8x32x32, .f32⟩
  | 11 => ⟨S8x32x32, .f32⟩
  | 12 => ⟨S8x32x32, .f32⟩
  | 13 => ⟨S8x32x32, .i32⟩
  | 14 => ⟨S8x1024, .i32⟩
  | 15 => ⟨S8x1x1024, .i32⟩
  | 16 => ⟨S8x16x1024, .i32⟩
  | 17 => ⟨S128x1024, .i32⟩
  | 18 => ⟨S8x32x32, .f32⟩
  | 19 => ⟨S8x1x1024, .f32⟩
  | 20 => ⟨S8x16x1024, .f32⟩
  | 21 => ⟨S128x1024, .f32⟩
  | 22 => ⟨S128x128x1024, .f32⟩
  | 23 => ⟨S128x1x1024, .f32⟩
  | 24 => ⟨S128x128x1024, .f32⟩
  | 25 => ⟨S128x128x1024, .f32⟩
  | 26 => ⟨S128x1x1024, .i32⟩
  | 27 => ⟨S_, .i32⟩
  | 28 => ⟨S128x1x1, .i32⟩
  | 29 => ⟨S128x1x1, .i1⟩
  | 30 => ⟨S_, .i32⟩
  | 31 => ⟨S128x1x1, .i32⟩
  | 32 => ⟨S128x1x1, .i32⟩
  | 33 => ⟨S128x1x1, .i32⟩
  | 34 => ⟨S_, .i32⟩
  | 35 => ⟨S1x128x1, .i32⟩
  | 36 => ⟨S1x128x1, .i1⟩
  | 37 => ⟨S_, .i32⟩
  | 38 => ⟨S1x128x1, .i32⟩
  | 39 => ⟨S1x128x1, .i32⟩
  | 40 => ⟨S1x128x1, .i32⟩
  | 41 => ⟨S_, .i32⟩
  | 42 => ⟨S128x1x1024, .i32⟩
  | 43 => ⟨S128x1x1024, .i1⟩
  | 44 => ⟨S_, .i32⟩
  | 45 => ⟨S128x1x1024, .i32⟩
  | 46 => ⟨S128x1x1024, .i32⟩
  | 47 => ⟨S128x1x1024, .i32⟩
  | 48 => ⟨S128x128x1024, .i32⟩
  | 49 => ⟨S128x128x1024, .i32⟩
  | 50 => ⟨S128x128x1024, .i32⟩
  | 51 => ⟨S128x128x1024x1, .i32⟩
  | 52 => ⟨S128x128x1024x1, .i32⟩
  | 53 => ⟨S128x128x1024x1, .i32⟩
  | 54 => ⟨S128x128x1024x3, .i32⟩
  | 55 => ⟨S128x128x1024, .f32⟩
  | 56 => ⟨S_, .i32⟩
  | 57 => ⟨S128x1, .i32⟩
  | 58 => ⟨S128x1, .i1⟩
  | 59 => ⟨S_, .i32⟩
  | 60 => ⟨S128x1, .i32⟩
  | 61 => ⟨S128x1, .i32⟩
  | 62 => ⟨S128x1, .i32⟩
  | 63 => ⟨S_, .i32⟩
  | 64 => ⟨S128x1024, .i32⟩
  | 65 => ⟨S128x1024, .i1⟩
  | 66 => ⟨S_, .i32⟩
  | 67 => ⟨S128x1024, .i32⟩
  | 68 => ⟨S128x1024, .i32⟩
  | 69 => ⟨S128x1024, .i32⟩
  | 70 => ⟨S128x1024, .i32⟩
  | 71 => ⟨S_, .i32⟩
  | 72 => ⟨S128x1024, .i32⟩
  | 73 => ⟨S128x1024, .i32⟩
  | 74 => ⟨S128x1024x1, .i32⟩
  | 75 => ⟨S128x1024x1, .i32⟩
  | 76 => ⟨S128x1024x1, .i32⟩
  | 77 => ⟨S128x1024x3, .i32⟩
  | 78 => ⟨S128x1x1024, .f32⟩
  | 79 => ⟨S_, .f32⟩
  | 80 => ⟨S_, .f32⟩
  | 81 => ⟨S128x1x1024, .f32⟩
  | 82 => ⟨S128x1x1024, .f32⟩
  | 83 => ⟨S128x128x1024, .f32⟩
  | 84 => ⟨S128x128x1024, .f32⟩
  | 85 => ⟨S8x16x128x32x32, .f32⟩
  | 86 => ⟨S8x16x1x32x32, .f32⟩
  | _ => ⟨S8x16x128x32x32, .f32⟩

abbrev hbmTy (i : Nat) : BufTy := match i / 128 with
  | 0 => hbmTy0_0 i
  | 1 => hbmTy0_1 i
  | 2 => hbmTy0_2 i
  | 3 => hbmTy0_3 i
  | _ => ⟨S8x16x128x32x32, .f32⟩

abbrev bufTy : (tb : Table) → Fin (tcTables nBuf tb) → BufTy
  | .hbm, ⟨i, _⟩ => hbmTy i
  | _, _ => ⟨S8x16x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_11 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_c_15 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v53 : Ref sig .tc := ⟨.hbm, 78, rfl⟩
abbrev main_cst_16 : Ref sig .tc := ⟨.hbm, 79, rfl⟩
abbrev main_v54 : Ref sig .tc := ⟨.hbm, 80, rfl⟩
abbrev main_v55 : Ref sig .tc := ⟨.hbm, 81, rfl⟩
abbrev main_c_17 : Ref sig .tc := ⟨.hbm, 82, rfl⟩
abbrev main_c_18 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_19 : Ref sig .tc := ⟨.hbm, 105, rfl⟩
abbrev main_v72 : Ref sig .tc := ⟨.hbm, 106, rfl⟩
abbrev main_v73 : Ref sig .tc := ⟨.hbm, 107, rfl⟩
abbrev main_c_20 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_c_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_23 : Ref sig .tc := ⟨.hbm, 119, rfl⟩
abbrev main_v82 : Ref sig .tc := ⟨.hbm, 120, rfl⟩
abbrev main_v83 : Ref sig .tc := ⟨.hbm, 121, rfl⟩
abbrev main_c_24 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_25 : Ref sig .tc := ⟨.hbm, 134, rfl⟩
abbrev main_v95 : Ref sig .tc := ⟨.hbm, 135, rfl⟩
abbrev main_v96 : Ref sig .tc := ⟨.hbm, 136, rfl⟩
abbrev main_c_26 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_27 : Ref sig .tc := ⟨.hbm, 141, rfl⟩
abbrev main_v100 : Ref sig .tc := ⟨.hbm, 142, rfl⟩
abbrev main_v101 : Ref sig .tc := ⟨.hbm, 143, rfl⟩
abbrev main_c_28 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_29 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_30 : Ref sig .tc := ⟨.hbm, 157, rfl⟩
abbrev main_v113 : Ref sig .tc := ⟨.hbm, 158, rfl⟩
abbrev main_v114 : Ref sig .tc := ⟨.hbm, 159, rfl⟩
abbrev main_cst_31 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_32 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_33 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_c_34 : Ref sig .tc := ⟨.hbm, 173, rfl⟩
abbrev main_c_35 : Ref sig .tc := ⟨.hbm, 174, rfl⟩
abbrev main_call2_v0 : Ref sig .tc := ⟨.hbm, 175, rfl⟩
abbrev main_call2_v1 : Ref sig .tc := ⟨.hbm, 176, rfl⟩
abbrev main_call2_v2 : Ref sig .tc := ⟨.hbm, 177, rfl⟩
abbrev main_call2_v3 : Ref sig .tc := ⟨.hbm, 178, rfl⟩
abbrev main_call2_v4 : Ref sig .tc := ⟨.hbm, 179, rfl⟩
abbrev main_v125 : Ref sig .tc := ⟨.hbm, 180, rfl⟩
abbrev main_cst_36 : Ref sig .tc := ⟨.hbm, 181, rfl⟩
abbrev main_v126 : Ref sig .tc := ⟨.hbm, 182, rfl⟩
abbrev main_v127 : Ref sig .tc := ⟨.hbm, 183, rfl⟩
abbrev main_c_37 : Ref sig .tc := ⟨.hbm, 184, rfl⟩
abbrev main_c_38 : Ref sig .tc := ⟨.hbm, 185, rfl⟩
abbrev main_call3_v0 : Ref sig .tc := ⟨.hbm, 186, rfl⟩
abbrev main_call3_v1 : Ref sig .tc := ⟨.hbm, 187, rfl⟩
abbrev main_call3_v2 : Ref sig .tc := ⟨.hbm, 188, rfl⟩
abbrev main_call3_v3 : Ref sig .tc := ⟨.hbm, 189, rfl⟩
abbrev main_call3_v4 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_c_39 : Ref sig .tc := ⟨.hbm, 207, rfl⟩
abbrev main_v144 : Ref sig .tc := ⟨.hbm, 208, rfl⟩
abbrev main_v145 : Ref sig .tc := ⟨.hbm, 209, rfl⟩
abbrev main_c_40 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_c_41 : Ref sig .tc := ⟨.hbm, 214, rfl⟩
abbrev main_v149 : Ref sig .tc := ⟨.hbm, 215, rfl⟩
abbrev main_v150 : Ref sig .tc := ⟨.hbm, 216, rfl⟩
abbrev main_c_42 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_c_43 : Ref sig .tc := ⟨.hbm, 221, rfl⟩
abbrev main_v154 : Ref sig .tc := ⟨.hbm, 222, rfl⟩
abbrev main_v155 : Ref sig .tc := ⟨.hbm, 223, rfl⟩
abbrev main_c_44 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_c_45 : Ref sig .tc := ⟨.hbm, 236, rfl⟩
abbrev main_v167 : Ref sig .tc := ⟨.hbm, 237, rfl⟩
abbrev main_v168 : Ref sig .tc := ⟨.hbm, 238, rfl⟩
abbrev main_c_46 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_47 : Ref sig .tc := ⟨.hbm, 243, rfl⟩
abbrev main_v172 : Ref sig .tc := ⟨.hbm, 244, rfl⟩
abbrev main_v173 : Ref sig .tc := ⟨.hbm, 245, rfl⟩
abbrev main_c_48 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_c_49 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_cst_50 : Ref sig .tc := ⟨.hbm, 259, rfl⟩
abbrev main_v185 : Ref sig .tc := ⟨.hbm, 260, rfl⟩
abbrev main_v186 : Ref sig .tc := ⟨.hbm, 261, rfl⟩
abbrev main_cst_51 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_cst_52 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_cst_53 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_c_54 : Ref sig .tc := ⟨.hbm, 275, rfl⟩
abbrev main_c_55 : Ref sig .tc := ⟨.hbm, 276, rfl⟩
abbrev main_call4_v0 : Ref sig .tc := ⟨.hbm, 277, rfl⟩
abbrev main_call4_v1 : Ref sig .tc := ⟨.hbm, 278, rfl⟩
abbrev main_call4_v2 : Ref sig .tc := ⟨.hbm, 279, rfl⟩
abbrev main_call4_v3 : Ref sig .tc := ⟨.hbm, 280, rfl⟩
abbrev main_call4_v4 : Ref sig .tc := ⟨.hbm, 281, rfl⟩
abbrev main_v197 : Ref sig .tc := ⟨.hbm, 282, rfl⟩
abbrev main_cst_56 : Ref sig .tc := ⟨.hbm, 283, rfl⟩
abbrev main_v198 : Ref sig .tc := ⟨.hbm, 284, rfl⟩
abbrev main_v199 : Ref sig .tc := ⟨.hbm, 285, rfl⟩
abbrev main_c_57 : Ref sig .tc := ⟨.hbm, 286, rfl⟩
abbrev main_c_58 : Ref sig .tc := ⟨.hbm, 287, rfl⟩
abbrev main_call5_v0 : Ref sig .tc := ⟨.hbm, 288, rfl⟩
abbrev main_call5_v1 : Ref sig .tc := ⟨.hbm, 289, rfl⟩
abbrev main_call5_v2 : Ref sig .tc := ⟨.hbm, 290, rfl⟩
abbrev main_call5_v3 : Ref sig .tc := ⟨.hbm, 291, rfl⟩
abbrev main_call5_v4 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_c_59 : Ref sig .tc := ⟨.hbm, 309, rfl⟩
abbrev main_v216 : Ref sig .tc := ⟨.hbm, 310, rfl⟩
abbrev main_v217 : Ref sig .tc := ⟨.hbm, 311, rfl⟩
abbrev main_c_60 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_c_61 : Ref sig .tc := ⟨.hbm, 316, rfl⟩
abbrev main_v221 : Ref sig .tc := ⟨.hbm, 317, rfl⟩
abbrev main_v222 : Ref sig .tc := ⟨.hbm, 318, rfl⟩
abbrev main_c_62 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_c_63 : Ref sig .tc := ⟨.hbm, 323, rfl⟩
abbrev main_v226 : Ref sig .tc := ⟨.hbm, 324, rfl⟩
abbrev main_v227 : Ref sig .tc := ⟨.hbm, 325, rfl⟩
abbrev main_c_64 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_c_65 : Ref sig .tc := ⟨.hbm, 338, rfl⟩
abbrev main_v239 : Ref sig .tc := ⟨.hbm, 339, rfl⟩
abbrev main_v240 : Ref sig .tc := ⟨.hbm, 340, rfl⟩
abbrev main_c_66 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_c_67 : Ref sig .tc := ⟨.hbm, 345, rfl⟩
abbrev main_v244 : Ref sig .tc := ⟨.hbm, 346, rfl⟩
abbrev main_v245 : Ref sig .tc := ⟨.hbm, 347, rfl⟩
abbrev main_c_68 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_v249 : Ref sig .tc := ⟨.hbm, 352, rfl⟩
abbrev main_c_69 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_cst_70 : Ref sig .tc := ⟨.hbm, 361, rfl⟩
abbrev main_v257 : Ref sig .tc := ⟨.hbm, 362, rfl⟩
abbrev main_v258 : Ref sig .tc := ⟨.hbm, 363, rfl⟩
abbrev main_cst_71 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_cst_72 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_cst_73 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_c_74 : Ref sig .tc := ⟨.hbm, 377, rfl⟩
abbrev main_c_75 : Ref sig .tc := ⟨.hbm, 378, rfl⟩
abbrev main_call6_v0 : Ref sig .tc := ⟨.hbm, 379, rfl⟩
abbrev main_call6_v1 : Ref sig .tc := ⟨.hbm, 380, rfl⟩
abbrev main_call6_v2 : Ref sig .tc := ⟨.hbm, 381, rfl⟩
abbrev main_call6_v3 : Ref sig .tc := ⟨.hbm, 382, rfl⟩
abbrev main_call6_v4 : Ref sig .tc := ⟨.hbm, 383, rfl⟩
abbrev main_v269 : Ref sig .tc := ⟨.hbm, 384, rfl⟩
abbrev main_cst_76 : Ref sig .tc := ⟨.hbm, 385, rfl⟩
abbrev main_v270 : Ref sig .tc := ⟨.hbm, 386, rfl⟩
abbrev main_v271 : Ref sig .tc := ⟨.hbm, 387, rfl⟩
abbrev main_c_77 : Ref sig .tc := ⟨.hbm, 388, rfl⟩
abbrev main_c_78 : Ref sig .tc := ⟨.hbm, 389, rfl⟩
abbrev main_call7_v0 : Ref sig .tc := ⟨.hbm, 390, rfl⟩
abbrev main_call7_v1 : Ref sig .tc := ⟨.hbm, 391, rfl⟩
abbrev main_call7_v2 : Ref sig .tc := ⟨.hbm, 392, rfl⟩
abbrev main_call7_v3 : Ref sig .tc := ⟨.hbm, 393, rfl⟩
abbrev main_call7_v4 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_v276 : Ref sig .tc := ⟨.hbm, 399, rfl⟩
abbrev main_v277 : Ref sig .tc := ⟨.hbm, 400, rfl⟩
abbrev main_v278 : Ref sig .tc := ⟨.hbm, 401, rfl⟩
abbrev main_v279 : Ref sig .tc := ⟨.hbm, 402, rfl⟩
abbrev main_v280 : Ref sig .tc := ⟨.hbm, 403, rfl⟩
abbrev main_v281 : Ref sig .tc := ⟨.hbm, 404, rfl⟩
abbrev main_v282 : Ref sig .tc := ⟨.hbm, 405, rfl⟩
abbrev main_v283 : Ref sig .tc := ⟨.hbm, 406, rfl⟩
abbrev main_v284 : Ref sig .tc := ⟨.hbm, 407, rfl⟩
abbrev main_v285 : Ref sig .tc := ⟨.hbm, 408, rfl⟩
abbrev main_v286 : Ref sig .tc := ⟨.hbm, 409, rfl⟩
abbrev main_v287 : Ref sig .tc := ⟨.hbm, 410, rfl⟩
abbrev main_c_79 : Ref sig .tc := ⟨.hbm, 411, rfl⟩
abbrev main_v288 : Ref sig .tc := ⟨.hbm, 412, rfl⟩
abbrev main_v289 : Ref sig .tc := ⟨.hbm, 413, rfl⟩
abbrev main_c_80 : Ref sig .tc := ⟨.hbm, 414, rfl⟩
abbrev main_v290 : Ref sig .tc := ⟨.hbm, 415, rfl⟩
abbrev main_v291 : Ref sig .tc := ⟨.hbm, 416, rfl⟩
abbrev main_v292 : Ref sig .tc := ⟨.hbm, 417, rfl⟩
abbrev main_c_81 : Ref sig .tc := ⟨.hbm, 418, rfl⟩
abbrev main_v293 : Ref sig .tc := ⟨.hbm, 419, rfl⟩
abbrev main_v294 : Ref sig .tc := ⟨.hbm, 420, rfl⟩
abbrev main_c_82 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_c_83 : Ref sig .tc := ⟨.hbm, 425, rfl⟩
abbrev main_v298 : Ref sig .tc := ⟨.hbm, 426, rfl⟩
abbrev main_v299 : Ref sig .tc := ⟨.hbm, 427, rfl⟩
abbrev main_c_84 : Ref sig .tc := ⟨.hbm, 428, rfl⟩
abbrev main_v300 : Ref sig .tc := ⟨.hbm, 429, rfl⟩
abbrev main_v301 : Ref sig .tc := ⟨.hbm, 430, rfl⟩
abbrev main_v302 : Ref sig .tc := ⟨.hbm, 431, rfl⟩
abbrev main_v303 : Ref sig .tc := ⟨.hbm, 432, rfl⟩
abbrev main_v304 : Ref sig .tc := ⟨.hbm, 433, rfl⟩
abbrev main_v305 : Ref sig .tc := ⟨.hbm, 434, rfl⟩
abbrev main_v306 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_c_85 : Ref sig .tc := ⟨.hbm, 440, rfl⟩
abbrev main_v311 : Ref sig .tc := ⟨.hbm, 441, rfl⟩
abbrev main_v312 : Ref sig .tc := ⟨.hbm, 442, rfl⟩
abbrev main_c_86 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_c_87 : Ref sig .tc := ⟨.hbm, 447, rfl⟩
abbrev main_v316 : Ref sig .tc := ⟨.hbm, 448, rfl⟩
abbrev main_v317 : Ref sig .tc := ⟨.hbm, 449, rfl⟩
abbrev main_c_88 : Ref sig .tc := ⟨.hbm, 450, rfl⟩
abbrev main_v318 : Ref sig .tc := ⟨.hbm, 451, rfl⟩
abbrev main_v319 : Ref sig .tc := ⟨.hbm, 452, rfl⟩
abbrev main_v320 : Ref sig .tc := ⟨.hbm, 453, rfl⟩
abbrev main_v321 : Ref sig .tc := ⟨.hbm, 454, rfl⟩
abbrev main_c_89 : Ref sig .tc := ⟨.hbm, 455, rfl⟩
abbrev main_v322 : Ref sig .tc := ⟨.hbm, 456, rfl⟩
abbrev main_v323 : Ref sig .tc := ⟨.hbm, 457, rfl⟩
abbrev main_v324 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_v328 : Ref sig .tc := ⟨.hbm, 462, rfl⟩
abbrev main_cst_90 : Ref sig .tc := ⟨.hbm, 463, rfl⟩
abbrev main_call8_v0 : Ref sig .tc := ⟨.hbm, 464, rfl⟩
abbrev main_call8_v1 : Ref sig .tc := ⟨.hbm, 465, rfl⟩
abbrev main_v329 : Ref sig .tc := ⟨.hbm, 466, rfl⟩
abbrev main_v330 : Ref sig .tc := ⟨.hbm, 467, rfl⟩
abbrev main_v331 : Ref sig .tc := ⟨.hbm, 468, rfl⟩
abbrev main_v332 : Ref sig .tc := ⟨.hbm, 469, rfl⟩
abbrev main_v333 : Ref sig .tc := ⟨.hbm, 470, rfl⟩

abbrev nD : Nat := 1
abbrev τ : Topo := Topo.v7x

variable {F : FTy → Type} [FloatOps F]
-- ==== Proof.Pieces.lean ====
/-
  What the kernel's body leaves in its two outputs and its two scratch operands, case by case, as closed terms of the
  blocks it loads.

  `A` is the case of a batch's first point: the body builds the routing matrix of the batch from the coordinates, keeps it
  (`routeM`) and its row sums (`rowW`) in scratch, and multiplies four feature slabs by it.
  `B` is the case of the later points of the batch: the matrix and the row sums are read back from scratch.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Splat

open Cert.KernelIdeal Cert.KernelIdeal.Gen

variable {F : FTy → Type} [FloatOps F] [Named F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The row numbers of the routing matrix: entry `(c, p)` is the word `c`. -/
abbrev rows : IVec S1024x1024 32 := iota .tc S1024x1024 32 [0] iota_S1024x1024_d0_w32

/-- The contribution of the neighbours 0, 1 and 2 to the routing matrix, from the two blocks of coordinates. -/
abbrev route3 (x y : Vec F S1x1x1024 .f32) : FVec F S1024x1024 .f32 :=
  k0_pay23 (k0_pay6 x) (k0_pay9 y) (k0_pay15 x y) (k0_pay16 x y) rows
    (k0_pay20 (k0_pay6 x) (k0_pay7 y) (k0_pay14 x y) rows k0_pay18 (k0_pay19 x y))
    (k0_pay21 (k0_pay7 y) (k0_pay8 x)) (k0_pay22 (k0_pay7 y) (k0_pay8 x))

/-- The whole routing matrix, from the two blocks of coordinates. -/
abbrev route (x y : Vec F S1x1x1024 .f32) : FVec F S1024x1024 .f32 :=
  k0_pay26 (k0_pay8 x) (k0_pay9 y) (k0_pay17 x y) rows (route3 x y) (k0_pay24 (k0_pay8 x)) (k0_pay25 (k0_pay8 x))

/-- The normalised routing matrix the body keeps in scratch. -/
abbrev routeM (x y : Vec F S1x1x1024 .f32) : Vec F S1024x1024 .bf16 :=
  k0_pay29 (k0_pay28 (k0_pay8 x) (k0_pay9 y) (k0_pay17 x y) rows (route3 x y) (k0_pay24 (k0_pay8 x)) (k0_pay25 (k0_pay8 x)))

/-- The row sums of the routing matrix the body keeps in scratch. -/
abbrev rowW (x y : Vec F S1x1x1024 .f32) : Vec F S8x1024 .f32 :=
  k0_pay27 (k0_pay8 x) (k0_pay9 y) (k0_pay17 x y) rows (route3 x y) (k0_pay24 (k0_pay8 x)) (k0_pay25 (k0_pay8 x))

/-- Slab `k` of a block of features. -/
abbrev slab (f : Vec F S1x4x1024x128 .f32) (k : Fin 4) : Vec F S1x1x1024x128 .f32 :=
  fun j => f fun | ⟨0, _⟩ => (0 : Fin 1) | ⟨1, _⟩ => k | ⟨2, _⟩ => j 2 | ⟨3, _⟩ => j 3

/-- The four products of a routing matrix with the four slabs of a block of features, one block. -/
abbrev products (f : Vec F S1x4x1024x128 .f32) (M : Vec F S1024x1024 .bf16) : Vec F S1x4x1024x128 .f32 :=
  fun j => k0_pay30 (slab f (j 1)) M fun | ⟨0, _⟩ => (0 : Fin 1) | ⟨1, _⟩ => (0 : Fin 1) | ⟨2, _⟩ => j 2 | ⟨3, _⟩ => j 3

section Cases
variable (c : Dev nD) (i : grid0.Coords) (arg2 : Memref sig .tc .vmem S1x1x1024 .f32) (harg2 : arg2.IsWhole)
  (arg3 : Memref sig .tc .vmem S1x1x1024 .f32) (harg3 : arg3.IsWhole) (arg4 : Memref sig .tc .vmem S1x4x1024x128 .f32)
  (harg4 : arg4.IsWhole) (arg5 : Memref sig .tc .vmem S1x4x1024x128 .f32) (harg5 : arg5.IsWhole)
  (arg6 : Memref sig .tc .vmem S1x8x1024 .f32) (harg6 : arg6.IsWhole) (arg7 : Memref sig .tc .vmem S1024x1024 .bf16)
  (harg7 : arg7.IsWhole) (arg8 : Memref sig .tc .vmem S8x1024 .f32) (harg8 : arg8.IsWhole)
  (x y : Vec F S1x1x1024 .f32) (f : Vec F S1x4x1024x128 .f32) (M : Vec F S1024x1024 .bf16) (w : Vec F S8x1024 .f32)

/-- A first point leaves the normalised routing matrix in the first scratch operand. -/
theorem scratch0_A (hc : cond0_0 i) :
    sout0_A_0 c i arg2 harg2 arg3 harg3 arg4 harg4 arg5 harg5 arg6 harg6 arg7 harg7 arg8 harg8 hc x y f = routeM x y := by
  unfold sout0_A_0
  rw [View.read_writes_eq_canon _ _ _ (scover0_A_0 c i arg2 harg2 arg3 harg3 arg4 harg4 arg5 harg5 arg6 harg6 arg7 harg7 arg8 harg8 hc x y f)]
  unfold kernelRun0_A
  dsimp only
  sl_unfold_words
  rw [View.canon_unit_zero hz2]
  simp only [View.readAt_eq_ld, harg2.read_unread, harg3.read_unread, View.ld_unit_zero (S := S1x1x1024) hz3]
  rfl

/-- A first point leaves the row sums in the second scratch operand. -/
theorem scratch1_A (hc : cond0_0 i) :
    sout0_A_1 c i arg2 harg2 arg3 harg3 arg4 harg4 arg5 harg5 arg6 harg6 arg7 harg7 arg8 harg8 hc x y f = rowW x y := by
  unfold sout0_A_1
  rw [View.read_writes_eq_canon _ _ _ (scover0_A_1 c i arg2 harg2 arg3 harg3 arg4 harg4 arg5 harg5 arg6 harg6 arg7 harg7 arg8 harg8 hc x y f)]
  unfold kernelRun0_A
  dsimp only
  sl_unfold_words
  rw [View.canon_unit_zero hz2]
  simp only [View.readAt_eq_ld, harg2.read_unread, harg3.read_unread, View.ld_unit_zero (S := S1x1x1024) hz3]
  rfl

/-- A first point leaves the row sums in the second output's staging buffer. -/
theorem out4_A (hc : cond0_0 i) :
    out0_A_4 c i arg2 harg2 arg3 harg3 arg4 harg4 arg5 harg5 arg6 harg6 arg7 harg7 arg8 harg8 hc x y f = k0_pay3 (rowW x y) := by
  unfold out0_A_4
  rw [View.read_writes_eq_canon _ _ _ (cover0_A_4 c i arg2 harg2 arg3 harg3 arg4 harg4 arg5 harg5 arg6 harg6 arg7 harg7 arg8 harg8 hc x y f)]
  unfold kernelRun0_A
  dsimp only
  sl_unfold_words
  rw [View.canon_unit_zero hz3, View.readCov_unit_zero (S := S8x1024) _ hz2]
  simp only [View.readAt_eq_ld, harg2.read_unread, harg3.read_unread, View.ld_unit_zero (S := S1x1x1024) hz3]
  rfl

/-- A later point leaves the row sums it found in scratch in the second output's staging buffer. -/
theorem out4_B (hc : ¬cond0_0 i) :
    out0_B_4 c i arg2 harg2 arg3 harg3 arg4 harg4 arg5 harg5 arg6 harg6 arg7 harg7 arg8 harg8 hc x y f M w = k0_pay3 w := by
  unfold out0_B_4
  rw [View.read_writes_eq_canon _ _ _ (cover0_B_4 c i arg2 harg2 arg3 harg3 arg4 harg4 arg5 harg5 arg6 harg6 arg7 harg7 arg8 harg8 hc x y f M w)]
  unfold kernelRun0_B
  dsimp only
  sl_unfold_words
  rw [View.canon_unit_zero hz3]
  simp only [View.readAt_eq_ld, harg8.read_unread, View.ld_unit_zero (S := S8x1024) hz2]

/-- One product through the rectangle of slab `k`: the load of the slab, the product, read where the store puts it. -/
theorem product_slab (k : Fin 4) (inb : ∀ a, (![0, k.val, 0, 0] : Fin 4 → Nat) a + S1x1x1024x128.size a ≤ S1x4x1024x128.size a)
    (z : S1x1x1024x128.Idx) :
    k0_pay30 (View.ld f (Rect.unit (s := S1x4x1024x128) ![0, k.val, 0, 0] S1x1x1024x128.size inb)) M z
      = products f M ((Rect.unit (s := S1x4x1024x128) ![0, k.val, 0, 0] S1x1x1024x128.size inb).emb z) := by
  have hk : ((Rect.unit (s := S1x4x1024x128) ![0, k.val, 0, 0] S1x1x1024x128.size inb).emb z) 1 = k := by
    apply Fin.ext
    show k.val + 1 * (z 1).val = k.val
    have : (z 1).val < 1 := (z 1).isLt
    omega
  have hs : View.ld f (Rect.unit (s := S1x4x1024x128) ![0, k.val, 0, 0] S1x1x1024x128.size inb) = slab f k := by
    funext j
    refine congrArg f (funext fun a => Fin.ext ?_)
    have h0 : (j 0).val < 1 := (j 0).isLt
    have h1 : (j 1).val < 1 := (j 1).isLt
    match a with
    | ⟨0, _⟩ => show 0 + 1 * (j 0).val = 0; omega
    | ⟨1, _⟩ => show k.val + 1 * (j 1).val = k.val; omega
    | ⟨2, _⟩ => show 0 + 1 * (j 2).val = (j 2).val; omega
    | ⟨3, _⟩ => show 0 + 1 * (j 3).val = (j 3).val; omega
  show _ = k0_pay30 (slab f (((Rect.unit (s := S1x4x1024x128) ![0, k.val, 0, 0] S1x1x1024x128.size inb).emb z) 1)) M _
  rw [hk, hs]
  refine congrArg (k0_pay30 (slab f k) M) (funext fun a => Fin.ext ?_)
  have h0 : (z 0).val < 1 := (z 0).isLt
  have h1 : (z 1).val < 1 := (z 1).isLt
  match a with
  | ⟨0, _⟩ => show (z 0).val = 0; omega
  | ⟨1, _⟩ => show (z 1).val = 0; omega
  | ⟨2, _⟩ => show (z 2).val = 0 + 1 * (z 2).val; omega
  | ⟨3, _⟩ => show (z 3).val = 0 + 1 * (z 3).val; omega

/-- A later point leaves the four products with the matrix it found in scratch in the first output's staging buffer. -/
theorem out3_B (hc : ¬cond0_0 i) :
    out0_B_3 c i arg2 harg2 arg3 harg3 arg4 harg4 arg5 harg5 arg6 harg6 arg7 harg7 arg8 harg8 hc x y f M w = products f M := by
  unfold out0_B_3
  rw [View.read_writes_eq_canon _ _ _ (cover0_B_3 c i arg2 harg2 arg3 harg3 arg4 harg4 arg5 harg5 arg6 harg6 arg7 harg7 arg8 harg8 hc x y f M w)]
  funext j
  refine View.canon_apply_of_pieces (products f M) _ ?_ j (cover0_B_3 c i arg2 harg2 arg3 harg3 arg4 harg4 arg5 harg5 arg6 harg6 arg7 harg7 arg8 harg8 hc x y f M w j)
  unfold kernelRun0_B
  dsimp only
  sl_unfold_words
  simp only [View.readAt_eq_ld, harg7.read_unread, harg4.read_unread, View.ld_unit_zero (S := S1024x1024) hz2]
  refine List.forall_mem_cons.2 ⟨fun z => product_slab f M 3 _ z, List.forall_mem_cons.2 ⟨fun z => product_slab f M 2 _ z,
    List.forall_mem_cons.2 ⟨fun z => product_slab f M 1 _ z, List.forall_mem_cons.2 ⟨fun z => product_slab f M 0 _ z,
      List.forall_mem_nil _⟩⟩⟩⟩

/-- A first point leaves the four products with the matrix it has just built. -/
theorem out3_A (hc : cond0_0 i) :
    out0_A_3 c i arg2 harg2 arg3 harg3 arg4 harg4 arg5 harg5 arg6 harg6 arg7 harg7 arg8 harg8 hc x y f = products f (routeM x y) := by
  unfold out0_A_3
  rw [View.read_writes_eq_canon _ _ _ (cover0_A_3 c i arg2 harg2 arg3 harg3 arg4 harg4 arg5 harg5 arg6 harg6 arg7 harg7 arg8 harg8 hc x y f)]
  funext j
  refine View.canon_apply_of_pieces (products f (routeM x y)) _ ?_ j (cover0_A_3 c i arg2 harg2 arg3 harg3 arg4 harg4 arg5 harg5 arg6 harg6 arg7 harg7 arg8 harg8 hc x y f j)
  unfold kernelRun0_A
  dsimp only
  sl_unfold_words
  simp only [View.readCov_unit_zero (S := S1024x1024) _ hz2]
  simp only [View.readAt_eq_ld, harg2.read_unread, harg3.read_unread, harg4.read_unread, View.ld_unit_zero (S := S1x1x1024) hz3]
  refine List.forall_mem_cons.2 ⟨fun z => product_slab f (routeM x y) 3 _ z, List.forall_mem_cons.2 ⟨fun z => product_slab f (routeM x y) 2 _ z,
    List.forall_mem_cons.2 ⟨fun z => product_slab f (routeM x y) 1 _ z, List.forall_mem_cons.2 ⟨fun z => product_slab f (routeM x y) 0 _ z,
      List.forall_mem_nil _⟩⟩⟩⟩

end Cases

end Cert.KernelIdeal.Splat
-- ==== Proof.Blocks.lean ====
/-
  The kernel's two result arrays.

  The host operations before the launch are read at an index (`entry_feats`, `entry_x`, `entry_y`), then the blocks the
  pipeline cuts from them, then what the two scratch operands hold at every grid point (`scratch_eq`: the matrix and the
  row sums of the point's batch), and from these the two arrays the launch leaves (`final_world`, `final_rows`) and the
  program's two results (`res0_world`, `res1_rows`).
-/
module

public import proofs.«01_k».proof.Proof.Pieces
public import Idealize.ShloMosaic.Lib.ValueIdxCore
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Splat

open Cert.KernelIdeal Cert.KernelIdeal.Gen

variable {F : FTy → Type} [FloatOps F] [Named F]
variable (m : (ℓ : Loc nD τ sig) → Buf (Elt F) ℓ) (ρ : Dev nD → PrngReg)

/-- The row of pixel number `p` of a 32 by 32 image. -/
abbrev hi (p : Fin 1024) : Fin 32 := ⟨p.val / 32, by omega⟩
/-- The column of pixel number `p` of a 32 by 32 image. -/
abbrev lo (p : Fin 1024) : Fin 32 := ⟨p.val % 32, by omega⟩

/-! ## The arrays at the launch -/

/-- The launch finds the features transposed, the pixels in one axis. -/
theorem entry_feats (c : Dev nD) (b : Fin 8) (n : Fin 16) (p : Fin 1024) (d : Fin 128) :
    V m c main_v1 (ix4 b n p d) = m ((c : Thread nD τ).loc main_arg0) (ix5 b n d (hi p) (lo p)) := by
  have e : V m c main_v1 = shapeCast S8x16x1024x128 (transpose S8x16x32x32x128 [0, 1, 3, 4, 2]
      (m ((c : Thread nD τ).loc main_arg0)) transposes_S8x16x128x32x32_S8x16x32x32x128_0_1_3_4_2)
      shapeCasts_S8x16x32x32x128_S8x16x1024x128 := by
    unfold V V0
    simp only [List.flatten_cons, List.flatten_nil, List.append_nil]
    after_results
    rfl
  rw [e, shapeCast_apply _ _ _ (ix5 b n (hi p) (lo p) d) (by
    rw [Shape.rowMajor_val_five, Shape.rowMajor_val_four]
    show (((b.val * 16 + n.val) * 32 + p.val / 32) * 32 + p.val % 32) * 128 + d.val = ((b.val * 16 + n.val) * 1024 + p.val) * 128 + d.val
    omega)]
  exact transpose_apply _ _ _ _ _ fun a => by fin_cases a <;> rfl

/-- The launch finds the first coordinates, the pixels in one axis. -/
theorem entry_x (c : Dev nD) (b : Fin 8) (p : Fin 1024) :
    V m c main_v4 (ix3 b (0 : Fin 1) p) = m ((c : Thread nD τ).loc main_arg1) (ix4 b (hi p) (lo p) (0 : Fin 2)) := by
  have e : V m c main_v4 = shapeCast S8x1x1024 (shapeCast S8x32x32 (extractStridedSlice S8x32x32x1 ![0, 0, 0, 0]
      (m ((c : Thread nD τ).loc main_arg1)) slices_S8x32x32x2_S8x32x32x1_0_0_0_0) shapeCasts_S8x32x32x1_S8x32x32)
      shapeCasts_S8x32x32_S8x1x1024 := by
    unfold V V0
    simp only [List.flatten_cons, List.flatten_nil, List.append_nil]
    after_results
    rfl
  rw [e, shapeCast_apply _ _ _ (ix3 b (hi p) (lo p)) (by
      rw [Shape.rowMajor_val_three, Shape.rowMajor_val_three]
      show (b.val * 32 + p.val / 32) * 32 + p.val % 32 = (b.val * 1 + 0) * 1024 + p.val
      omega),
    shapeCast_apply _ _ _ (ix4 b (hi p) (lo p) (0 : Fin 1)) (by
      rw [Shape.rowMajor_val_four, Shape.rowMajor_val_three]
      show ((b.val * 32 + p.val / 32) * 32 + p.val % 32) * 1 + 0 = (b.val * 32 + p.val / 32) * 32 + p.val % 32
      omega)]
  refine congrArg (m ((c : Thread nD τ).loc main_arg1)) (funext fun a => Fin.ext ?_)
  match a with
  | ⟨0, _⟩ => exact Nat.zero_add _
  | ⟨1, _⟩ => exact Nat.zero_add _
  | ⟨2, _⟩ => exact Nat.zero_add _
  | ⟨3, _⟩ => rfl

/-- The launch finds the second coordinates, the pixels in one axis. -/
theorem entry_y (c : Dev nD) (b : Fin 8) (p : Fin 1024) :
    V m c main_v7 (ix3 b (0 : Fin 1) p) = m ((c : Thread nD τ).loc main_arg1) (ix4 b (hi p) (lo p) (1 : Fin 2)) := by
  have e : V m c main_v7 = shapeCast S8x1x1024 (shapeCast S8x32x32 (extractStridedSlice S8x32x32x1 ![0, 0, 0, 1]
      (m ((c : Thread nD τ).loc main_arg1)) slices_S8x32x32x2_S8x32x32x1_0_0_0_1) shapeCasts_S8x32x32x1_S8x32x32)
      shapeCasts_S8x32x32_S8x1x1024 := by
    unfold V V0
    simp only [List.flatten_cons, List.flatten_nil, List.append_nil]
    after_results
    rfl
  rw [e, shapeCast_apply _ _ _ (ix3 b (hi p) (lo p)) (by
      rw [Shape.rowMajor_val_three, Shape.rowMajor_val_three]
      show (b.val * 32 + p.val / 32) * 32 + p.val % 32 = (b.val * 1 + 0) * 1024 + p.val
      omega),
    shapeCast_apply _ _ _ (ix4 b (hi p) (lo p) (0 : Fin 1)) (by
      rw [Shape.rowMajor_val_four, Shape.rowMajor_val_three]
      show ((b.val * 32 + p.val / 32) * 32 + p.val % 32) * 1 + 0 = (b.val * 32 + p.val / 32) * 32 + p.val % 32
      omega)]
  refine congrArg (m ((c : Thread nD τ).loc main_arg1)) (funext fun a => Fin.ext ?_)
  match a with
  | ⟨0, _⟩ => exact Nat.zero_add _
  | ⟨1, _⟩ => exact Nat.zero_add _
  | ⟨2, _⟩ => exact Nat.zero_add _
  | ⟨3, _⟩ => rfl

/-! ## The blocks at a point -/

/-- The batch of a grid point. -/
abbrev batch (t : Fin cfg0.N) : Fin 8 := ⟨t.val / 4, by have : cfg0.N = 32 := N_0; have := t.isLt; omega⟩
/-- Frame `k` of the four frames of a grid point. -/
abbrev frameOf (t : Fin cfg0.N) (k : Fin 4) : Fin 16 := ⟨4 * (t.val % 4) + k.val, by omega⟩

/-- The block of first coordinates of batch `b`, as the launch finds it. -/
abbrev xs (c : Dev nD) (b : Fin 8) : Vec F S1x1x1024 .f32 := fun j => V m c main_v4 (ix3 b (0 : Fin 1) (j 2))
/-- The block of second coordinates of batch `b`, as the launch finds it. -/
abbrev ys (c : Dev nD) (b : Fin 8) : Vec F S1x1x1024 .f32 := fun j => V m c main_v7 (ix3 b (0 : Fin 1) (j 2))
/-- Frame `n` of batch `b` of the features, as the launch finds it. -/
abbrev fs (c : Dev nD) (b : Fin 8) (n : Fin 16) : Vec F S1x1x1024x128 .f32 := fun j => V m c main_v1 (ix4 b n (j 2) (j 3))

theorem index0 : ∀ t : Fin grid0.N, win0_0.index t 0 = t.val / 4 ∧ win0_0.index t 1 = 0 ∧ win0_0.index t 2 = 0 := by decide +kernel
theorem index1 : ∀ t : Fin grid0.N, win0_1.index t 0 = t.val / 4 ∧ win0_1.index t 1 = 0 ∧ win0_1.index t 2 = 0 := by decide +kernel
theorem index2 : ∀ t : Fin grid0.N, win0_2.index t 0 = t.val / 4 ∧ win0_2.index t 1 = t.val % 4 ∧ win0_2.index t 2 = 0
    ∧ win0_2.index t 3 = 0 := by decide +kernel
theorem index3 : ∀ t : Fin grid0.N, win0_3.index t 0 = t.val / 4 ∧ win0_3.index t 1 = t.val % 4 ∧ win0_3.index t 2 = 0
    ∧ win0_3.index t 3 = 0 := by decide +kernel
theorem index4 : ∀ t : Fin grid0.N, win0_4.index t 0 = t.val / 4 ∧ win0_4.index t 1 = 0 ∧ win0_4.index t 2 = 0 := by decide +kernel

/-- A point's block of first coordinates is its batch's. -/
theorem blockX (c : Dev nD) (t : Fin cfg0.N) : (iblk m c 0 t : Vec F S1x1x1024 .f32) = xs m c (batch t) := by
  obtain ⟨i0, i1, i2⟩ := index0 t
  funext j
  unfold iblk
  rw [View.read_apply]
  show V m c main_v4 _ = V m c main_v4 _
  congr 1
  funext a
  apply Fin.ext
  have h0 : (j 0).val < 1 := (j 0).isLt
  have h1 : (j 1).val < 1 := (j 1).isLt
  match a with
  | ⟨0, _⟩ => show win0_0.index t 0 * 1 + 1 * (j 0).val = t.val / 4; rw [i0]; omega
  | ⟨1, _⟩ => show win0_0.index t 1 * 1 + 1 * (j 1).val = 0; rw [i1]; omega
  | ⟨2, _⟩ => show win0_0.index t 2 * 1024 + 1 * (j 2).val = (j 2).val; rw [i2]; omega

/-- A point's block of second coordinates is its batch's. -/
theorem blockY (c : Dev nD) (t : Fin cfg0.N) : (iblk m c 1 t : Vec F S1x1x1024 .f32) = ys m c (batch t) := by
  obtain ⟨i0, i1, i2⟩ := index1 t
  funext j
  unfold iblk
  rw [View.read_apply]
  show V m c main_v7 _ = V m c main_v7 _
  congr 1
  funext a
  apply Fin.ext
  have h0 : (j 0).val < 1 := (j 0).isLt
  have h1 : (j 1).val < 1 := (j 1).isLt
  match a with
  | ⟨0, _⟩ => show win0_1.index t 0 * 1 + 1 * (j 0).val = t.val / 4; rw [i0]; omega
  | ⟨1, _⟩ => show win0_1.index t 1 * 1 + 1 * (j 1).val = 0; rw [i1]; omega
  | ⟨2, _⟩ => show win0_1.index t 2 * 1024 + 1 * (j 2).val = (j 2).val; rw [i2]; omega

/-- Slab `k` of a point's block of features is frame `4 (t mod 4) + k` of its batch. -/
theorem blockF (c : Dev nD) (t : Fin cfg0.N) (k : Fin 4) :
    slab (iblk m c 2 t : Vec F S1x4x1024x128 .f32) k = fs m c (batch t) (frameOf t k) := by
  obtain ⟨i0, i1, i2, i3⟩ := index2 t
  funext j
  unfold slab iblk
  rw [View.read_apply]
  show V m c main_v1 _ = V m c main_v1 _
  congr 1
  funext a
  apply Fin.ext
  match a with
  | ⟨0, _⟩ => show win0_2.index t 0 * 1 + 1 * 0 = t.val / 4; rw [i0]; omega
  | ⟨1, _⟩ => show win0_2.index t 1 * 4 + 1 * k.val = 4 * (t.val % 4) + k.val; rw [i1]; omega
  | ⟨2, _⟩ => show win0_2.index t 2 * 1024 + 1 * (j 2).val = (j 2).val; rw [i2]; omega
  | ⟨3, _⟩ => show win0_2.index t 3 * 128 + 1 * (j 3).val = (j 3).val; rw [i3]; omega

/-! ## The scratch operands at a point -/

/-- The normalised routing matrix of batch `b`. -/
abbrev matOf (c : Dev nD) (b : Fin 8) : Vec F S1024x1024 .bf16 := routeM (xs m c b) (ys m c b)
/-- The row sums of the routing matrix of batch `b`. -/
abbrev sumOf (c : Dev nD) (b : Fin 8) : Vec F S8x1024 .f32 := rowW (xs m c b) (ys m c b)

/-- After every point the scratch operands hold the matrix and the row sums of the point's batch: a batch's first point
    puts them there and its later points leave them alone. -/
theorem scratch_eq (c : Dev nD) : ∀ (n : ℕ) (h : n < cfg0.N),
    (outsAt0 m c n h).2.2.1 = matOf m c (batch ⟨n, h⟩) ∧ (outsAt0 m c n h).2.2.2 = sumOf m c (batch ⟨n, h⟩) := by
  intro n
  induction n with
  | zero =>
    intro h
    rw [outsAt0_A m c ⟨0, h⟩ rfl]
    dsimp only
    rw [scratch0_A, scratch1_A, blockX, blockY]
    exact ⟨rfl, rfl⟩
  | succ n ih =>
    intro h
    by_cases hA : (n + 1) % 4 = 0
    · rw [outsAt0_A m c ⟨n + 1, h⟩ hA]
      dsimp only
      rw [scratch0_A, scratch1_A, blockX, blockY]
      exact ⟨rfl, rfl⟩
    · have hb : batch ⟨n + 1, h⟩ = batch ⟨n, Nat.lt_of_succ_lt h⟩ := Fin.ext (by show (n + 1) / 4 = n / 4; omega)
      rw [outsAt0_B m c ⟨n + 1, h⟩ hA, hb]
      exact ih (Nat.lt_of_succ_lt h)

/-- What a point leaves in the first output's staging buffer. -/
theorem staged_world (c : Dev nD) (t : Fin cfg0.N) :
    (dats m 0 c).after 3 t = products (iblk m c 2 t : Vec F S1x4x1024x128 .f32) (matOf m c (batch t)) := by
  rw [after0_3]
  by_cases hA : t.val % 4 = 0
  · rw [outsAt0_A m c t hA]
    dsimp only
    rw [out3_A, blockX, blockY]
  · have hb : batch ⟨t.val - 1, Nat.lt_of_le_of_lt (Nat.sub_le _ _) t.isLt⟩ = batch t := Fin.ext (by show (t.val - 1) / 4 = t.val / 4; omega)
    rw [outsAt0_B m c t hA]
    dsimp only
    rw [out3_B, (scratch_eq m c (t.val - 1) _).1, hb]

/-- What a point leaves in the second output's staging buffer. -/
theorem staged_rows (c : Dev nD) (t : Fin cfg0.N) :
    (dats m 0 c).after 4 t = k0_pay3 (sumOf m c (batch t)) := by
  rw [after0_4]
  by_cases hA : t.val % 4 = 0
  · rw [outsAt0_A m c t hA]
    dsimp only
    rw [out4_A, blockX, blockY]
  · have hb : batch ⟨t.val - 1, Nat.lt_of_le_of_lt (Nat.sub_le _ _) t.isLt⟩ = batch t := Fin.ext (by show (t.val - 1) / 4 = t.val / 4; omega)
    rw [outsAt0_B m c t hA]
    dsimp only
    rw [out4_B, (scratch_eq m c (t.val - 1) _).2, hb]

/-! ## The arrays the launch leaves -/

/-- The product of batch `b`'s matrix with frame `n` of its features. -/
abbrev prodOf (c : Dev nD) (b : Fin 8) (n : Fin 16) : FVec F S1x1x1024x128 .f32 := k0_pay30 (fs m c b n) (matOf m c b)

/-- The first array: every frame of every batch multiplied by the batch's matrix. -/
abbrev world (c : Dev nD) : Buf (Elt F) ((c : Thread nD τ).loc main_v8_0) :=
  fun i => prodOf m c (i 0) (i 1) (ix4 (0 : Fin 1) (0 : Fin 1) (i 2) (i 3))

/-- The second array: every batch's row sums. -/
abbrev rowsums (c : Dev nD) : Buf (Elt F) ((c : Thread nD τ).loc main_v8_1) :=
  fun i => k0_pay3 (sumOf m c (i 0)) (ix3 (0 : Fin 1) (i 1) (i 2))

/-- A point writes back its block of the first array. -/
theorem flushed_world (c : Dev nD) (t : Fin cfg0.N) (hf : (cfg0.win 3).flush t = true) :
    (dats m 0 c).flushed 3 t = ((cfg0.win 3).blk t).view.read (Elt F) (world m c) := by
  obtain ⟨i0, i1, i2, i3⟩ := index3 t
  show (cfg0.win 3).cut (grid0.coords t) ((dats m 0 c).after 3 t) = _
  rw [staged_world]
  funext j
  rw [View.read_apply]
  have h0 : (j 0).val < 1 := (j 0).isLt
  have h1 : (j 1).val < 4 := (j 1).isLt
  show k0_pay30 (slab (iblk m c 2 t : Vec F S1x4x1024x128 .f32) ⟨(j 1).val, h1⟩) (matOf m c (batch t)) _
    = prodOf m c _ _ _
  rw [blockF]
  have e0 : batch t = ((cfg0.win 3).blk t).view.emb j 0 := Fin.ext (by
    show t.val / 4 = win0_3.index t 0 * 1 + 1 * (j 0).val; rw [i0]; omega)
  have e1 : frameOf t ⟨(j 1).val, h1⟩ = ((cfg0.win 3).blk t).view.emb j 1 := Fin.ext (by
    show 4 * (t.val % 4) + (j 1).val = win0_3.index t 1 * 4 + 1 * (j 1).val; rw [i1]; omega)
  rw [← e0, ← e1]
  refine congrArg (prodOf m c (batch t) (frameOf t ⟨(j 1).val, h1⟩)) (funext fun a => Fin.ext ?_)
  match a with
  | ⟨0, _⟩ => rfl
  | ⟨1, _⟩ => rfl
  | ⟨2, _⟩ => show (j 2).val = win0_3.index t 2 * 1024 + 1 * (j 2).val; rw [i2]; omega
  | ⟨3, _⟩ => show (j 3).val = win0_3.index t 3 * 128 + 1 * (j 3).val; rw [i3]; omega

/-- A point that writes back the second output writes its block of the second array. -/
theorem flushed_rows (c : Dev nD) (t : Fin cfg0.N) (hf : (cfg0.win 4).flush t = true) :
    (dats m 0 c).flushed 4 t = ((cfg0.win 4).blk t).view.read (Elt F) (rowsums m c) := by
  obtain ⟨i0, i1, i2⟩ := index4 t
  show (cfg0.win 4).cut (grid0.coords t) ((dats m 0 c).after 4 t) = _
  rw [staged_rows]
  funext j
  rw [View.read_apply]
  have h0 : (j 0).val < 1 := (j 0).isLt
  show k0_pay3 (sumOf m c (batch t)) _ = k0_pay3 (sumOf m c _) _
  have e0 : batch t = ((cfg0.win 4).blk t).view.emb j 0 := Fin.ext (by
    show t.val / 4 = win0_4.index t 0 * 1 + 1 * (j 0).val; rw [i0]; omega)
  rw [← e0]
  refine congrArg (k0_pay3 (sumOf m c (batch t))) (funext fun a => Fin.ext ?_)
  match a with
  | ⟨0, _⟩ => show (j 0).val = 0; omega
  | ⟨1, _⟩ => show (j 1).val = win0_4.index t 1 * 8 + 1 * (j 1).val; rw [i1]; omega
  | ⟨2, _⟩ => show (j 2).val = win0_4.index t 2 * 1024 + 1 * (j 2).val; rw [i2]; omega

/-- The point whose block holds the frames of `n`'s group in batch `b`. -/
abbrev pointOf (b : Fin 8) (k : Fin 4) : Fin cfg0.N := ⟨4 * b.val + k.val, by have : cfg0.N = 32 := N_0; omega⟩

/-- The first array ends holding every product: the points' blocks cover it. -/
theorem final_world (c : Dev nD) : (dats m 0 c).arrAt 3 cfg0.N = world m c :=
  (dats m 0 c).arrAt_eq_of_cover 3 (world m c) (flushed_world m c) fun i => by
    have h0 : (i 0).val < 8 := (i 0).isLt
    have h1 : (i 1).val < 16 := (i 1).isLt
    have h2 : (i 2).val < 1024 := (i 2).isLt
    have h3 : (i 3).val < 128 := (i 3).isLt
    have hq : (i 1).val / 4 < 4 := by omega
    refine ⟨pointOf ⟨(i 0).val, h0⟩ ⟨(i 1).val / 4, hq⟩, flush0_3 _, ?_⟩
    obtain ⟨i0, i1, i2, i3⟩ := index3 (pointOf ⟨(i 0).val, h0⟩ ⟨(i 1).val / 4, hq⟩)
    show i ∈ ((View.whole main_v8_0).slice (win0_3.rect (pointOf ⟨(i 0).val, h0⟩ ⟨(i 1).val / 4, hq⟩))).set
    rw [View.set_slice_whole, Rect.mem_set_unit]
    intro a
    match a with
    | ⟨0, _⟩ =>
      show win0_3.index _ 0 * 1 ≤ (i 0 : Nat) ∧ (i 0 : Nat) < win0_3.index _ 0 * 1 + 1
      rw [i0]; dsimp only; omega
    | ⟨1, _⟩ =>
      show win0_3.index _ 1 * 4 ≤ (i 1 : Nat) ∧ (i 1 : Nat) < win0_3.index _ 1 * 4 + 4
      rw [i1]; dsimp only; omega
    | ⟨2, _⟩ =>
      show win0_3.index _ 2 * 1024 ≤ (i 2 : Nat) ∧ (i 2 : Nat) < win0_3.index _ 2 * 1024 + 1024
      rw [i2]; omega
    | ⟨3, _⟩ =>
      show win0_3.index _ 3 * 128 ≤ (i 3 : Nat) ∧ (i 3 : Nat) < win0_3.index _ 3 * 128 + 128
      rw [i3]; omega

/-- The second array ends holding every batch's row sums: the blocks of the batches' last points cover it. -/
theorem final_rows (c : Dev nD) : (dats m 0 c).arrAt 4 cfg0.N = rowsums m c :=
  (dats m 0 c).arrAt_eq_of_cover 4 (rowsums m c) (flushed_rows m c) fun i => by
    have h0 : (i 0).val < 8 := (i 0).isLt
    have h1 : (i 1).val < 8 := (i 1).isLt
    have h2 : (i 2).val < 1024 := (i 2).isLt
    refine ⟨pointOf ⟨(i 0).val, h0⟩ 3, (flush0_4 _).mpr (by show (4 * (i 0).val + 3) % 4 = 3; omega), ?_⟩
    obtain ⟨i0, i1, i2⟩ := index4 (pointOf ⟨(i 0).val, h0⟩ 3)
    show i ∈ ((View.whole main_v8_1).slice (win0_4.rect (pointOf ⟨(i 0).val, h0⟩ 3))).set
    rw [View.set_slice_whole, Rect.mem_set_unit]
    intro a
    match a with
    | ⟨0, _⟩ =>
      show win0_4.index _ 0 * 1 ≤ (i 0 : Nat) ∧ (i 0 : Nat) < win0_4.index _ 0 * 1 + 1
      rw [i0]; show (4 * (i 0).val + 3) / 4 * 1 ≤ (i 0).val ∧ (i 0).val < (4 * (i 0).val + 3) / 4 * 1 + 1; omega
    | ⟨1, _⟩ =>
      show win0_4.index _ 1 * 8 ≤ (i 1 : Nat) ∧ (i 1 : Nat) < win0_4.index _ 1 * 8 + 8
      rw [i1]; omega
    | ⟨2, _⟩ =>
      show win0_4.index _ 2 * 1024 ≤ (i 2 : Nat) ∧ (i 2 : Nat) < win0_4.index _ 2 * 1024 + 1024
      rw [i2]; omega

/-! ## The program's results -/

/-- The program's first result as a function of the first array. -/
abbrev res0 (W : FVec F S8x16x1024x128 .f32) : FVec F S8x16x128x32x32 .f32 :=
  transpose S8x16x128x32x32 [0, 1, 4, 2, 3] (shapeCast S8x16x32x32x128 W shapeCasts_S8x16x1024x128_S8x16x32x32x128)
    transposes_S8x16x32x32x128_S8x16x128x32x32_0_1_4_2_3

/-- The program's second result as a function of the second array. -/
abbrev res1 (W : FVec F S8x8x1024 .f32) : FVec F S8x16x1x32x32 .f32 :=
  broadcastInDim S8x16x1x32x32 ![0, 1, 2, 3, 4] bcast_S8x1x1x32x32_S8x16x1x32x32_0_1_2_3_4
    (shapeCast S8x1x1x32x32 (shapeCast S8x1024 (extractStridedSlice S8x1x1024 ![0, 0, 0] W slices_S8x8x1024_S8x1x1024_0_0_0)
      shapeCasts_S8x1x1024_S8x1024) shapeCasts_S8x1024_S8x1x1x32x32)

/-- After the launch the host transposes the first array into the first result. -/
theorem tail_world (c : Dev nD) : Pipeline.afterTail₀ cfgs (dats m) 0 (V0 m) [hostOps1] c main_v10 = res0 (world m c) := by
  have h : Pipeline.withArrays (cfgs 0).spec c (V0 m c) (fun w => (dats m 0 c).arrAt w (cfgs 0).N) (Proc.devRef .tc main_v8_0)
      = world m c :=
    (Pipeline.withArrays_arr spec0 launch0.win.arr_inj c (V0 m c) (fun w => (dats m 0 c).arrAt w cfg0.N) 3).trans (final_world m c)
  unfold Pipeline.afterTail₀
  simp only [List.flatten_cons, List.flatten_nil, List.append_nil]
  after_results
  exact congrArg res0 h

/-- After the launch the host cuts row 0 out of the second array and repeats it over the frames: the second result. -/
theorem tail_rows (c : Dev nD) : Pipeline.afterTail₀ cfgs (dats m) 0 (V0 m) [hostOps1] c main_v14 = res1 (rowsums m c) := by
  have h : Pipeline.withArrays (cfgs 0).spec c (V0 m c) (fun w => (dats m 0 c).arrAt w (cfgs 0).N) (Proc.devRef .tc main_v8_1)
      = rowsums m c :=
    (Pipeline.withArrays_arr spec0 launch0.win.arr_inj c (V0 m c) (fun w => (dats m 0 c).arrAt w cfg0.N) 4).trans (final_rows m c)
  unfold Pipeline.afterTail₀
  simp only [List.flatten_cons, List.flatten_nil, List.append_nil]
  after_results
  exact congrArg res1 h

/-- The pixel number of row `y` and column `x`. -/
abbrev pix (y x : Fin 32) : Fin 1024 := ⟨y.val * 32 + x.val, by omega⟩

/-- The first result at an index: the product of the batch's matrix with the frame, at the cell and the channel. -/
theorem res0_world (c : Dev nD) (b : Fin 8) (n : Fin 16) (d : Fin 128) (y x : Fin 32) :
    res0 (world m c) (ix5 b n d y x) = prodOf m c b n (ix4 (0 : Fin 1) (0 : Fin 1) (pix y x) d) := by
  unfold res0
  rw [transpose_apply _ _ _ _ (ix5 b n y x d) (fun a => by fin_cases a <;> rfl),
    shapeCast_apply _ _ _ (ix4 b n (pix y x) d) (by
      rw [Shape.rowMajor_val_five, Shape.rowMajor_val_four]
      show ((b.val * 16 + n.val) * 1024 + (y.val * 32 + x.val)) * 128 + d.val = (((b.val * 16 + n.val) * 32 + y.val) * 32 + x.val) * 128 + d.val
      omega)]
  rfl

/-- The second result at an index is the second array at row 0, at the cell. -/
theorem res1_apply (W : FVec F S8x8x1024 .f32) (b : Fin 8) (n : Fin 16) (y x : Fin 32) :
    res1 W (ix5 b n (0 : Fin 1) y x) = W (ix3 b (0 : Fin 8) (pix y x)) := by
  unfold res1
  rw [broadcastInDim_apply _ _ _ _ (ix5 b (0 : Fin 1) (0 : Fin 1) y x) (fun a => by fin_cases a <;> rfl),
    shapeCast_apply _ _ _ (ix2 b (pix y x)) (by
      rw [Shape.rowMajor_val_five, Shape.rowMajor_val_two]
      show b.val * 1024 + (y.val * 32 + x.val) = (((b.val * 1 + 0) * 1 + 0) * 32 + y.val) * 32 + x.val
      omega),
    shapeCast_apply _ _ _ (ix3 b (0 : Fin 1) (pix y x)) (by
      rw [Shape.rowMajor_val_three, Shape.rowMajor_val_two]
      show (b.val * 1 + 0) * 1024 + (y.val * 32 + x.val) = b.val * 1024 + (y.val * 32 + x.val)
      omega)]
  refine congrArg W (funext fun a => Fin.ext ?_)
  match a with
  | ⟨0, _⟩ => exact Nat.zero_add _
  | ⟨1, _⟩ => rfl
  | ⟨2, _⟩ => exact Nat.zero_add _

/-- The second result at an index: row 0 of the batch's row sums, at the cell. -/
theorem res1_rows (c : Dev nD) (b : Fin 8) (n : Fin 16) (y x : Fin 32) :
    res1 (rowsums m c) (ix5 b n (0 : Fin 1) y x) = k0_pay3 (sumOf m c b) (ix3 (0 : Fin 1) (0 : Fin 8) (pix y x)) :=
  (res1_apply (rowsums m c) b n y x).trans rfl

/-- The run: the two results as functions of the arguments, the arguments unchanged. -/
theorem run : θ_run defs (onTc (τ := τ) (main (F := F))) ⟨m, fun _ => 0, ρ⟩ fun r => ∀ c : Dev nD,
      r.2.mem ((c : Thread nD τ).loc main_v10) = res0 (world m c)
      ∧ r.2.mem ((c : Thread nD τ).loc main_v14) = res1 (rowsums m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v10 (Pipeline.mem_restRefs_of _ (by decide) (by decide))).trans (tail_world m c),
     ((h c).2 main_v14 (Pipeline.mem_restRefs_of _ (by decide) (by decide))).trans (tail_rows m c),
     ((h c).2 main_arg0 (Pipeline.mem_restRefs_of _ (by decide) (by decide))).trans (W_main_arg0 m (dats m) c),
     ((h c).2 main_arg1 (Pipeline.mem_restRefs_of _ (by decide) (by decide))).trans (W_main_arg1 m (dats m) c)⟩)
    (run_main m ρ)

end Cert.KernelIdeal.Splat
-- ==== Proof.Splat.lean ====
/-
  The mathematics of splatting one batch of points onto a grid of 32 × 32 cells, over the extended reals: no program here.

  A point has two coordinates. Each is carried to grid units (`grid`); the four cells around it get the four bilinear
  weights, the cells outside the grid get nothing (`share`). `normalised` is the identity the kernel rests on: dividing
  every entry of the routing matrix by the clamped sum of its row, then multiplying by the features, is multiplying first
  and dividing the sums afterwards. Sums of extended reals distribute here because the weights are finite and not negative.
-/
module

public import Idealize.ShloMosaic.PureOps.Ideal
public import Idealize.ShloMosaic.PureOps.Ideal.Laws

@[expose] public section

noncomputable section

open Idealize.ShloMosaic
open scoped Classical

namespace Cert.Splat

/-- A coordinate in grid units: `(t − (−15)) · 31/30`. -/
def grid (t : EReal) : EReal := (t - ((-15 : ℝ) : EReal)) * ((31 / 30 : ℝ) : EReal)

/-- The floor. -/
def fl (g : EReal) : EReal := Ideal.liftRound Int.floor g

/-- A neighbour's coordinate on one axis: the floor, or one more. -/
def nb : Bool → EReal → EReal
  | false, g => fl g
  | true, g => fl g + ((1 : ℝ) : EReal)

/-- A neighbour's weight on one axis. -/
def wt : Bool → EReal → EReal
  | false, g => ((1 : ℝ) : EReal) - (g - fl g)
  | true, g => g - fl g

/-- The cell `(nx, ny)` is inside the grid. -/
def Inside (nx ny : EReal) : Prop :=
  ((0 : ℝ) : EReal) ≤ nx ∧ nx < ((32 : ℝ) : EReal) ∧ ((0 : ℝ) : EReal) ≤ ny ∧ ny < ((32 : ℝ) : EReal)

/-- A weight, kept when its cell is inside the grid. -/
def kept (nx ny w : EReal) : EReal := if Inside nx ny then w else 0

/-- A coordinate clamped to the grid. -/
def clip (n : EReal) : EReal := min ((31 : ℝ) : EReal) (max ((0 : ℝ) : EReal) n)

/-- The number of the clamped cell, row by row, as a word. -/
def cell (nx ny : EReal) : BitVec 32 := Ideal.fptosi 32 (clip ny * ((32 : ℝ) : EReal) + clip nx)

/-- What a point at `(gx, gy)` gives the neighbour `(bx, by)`. -/
def share (bx bY : Bool) (gx gy : EReal) : EReal := kept (nb bx gx) (nb bY gy) (wt bx gx * wt bY gy)

/-- The cell that neighbour names. -/
def cellOf (bx bY : Bool) (gx gy : EReal) : BitVec 32 := cell (nb bx gx) (nb bY gy)

/-- What the neighbour `(bx, by)` of a point at `(gx, gy)` gives the cell `c`. -/
def part (bx bY : Bool) (c : ℕ) (gx gy : EReal) : EReal :=
  if (cellOf bx bY gx gy).toNat = c then share bx bY gx gy else 0

/-- A clamped coordinate is a real number between 0 and 31. -/
theorem clip_real (n : EReal) : ∃ r : ℝ, clip n = (r : EReal) ∧ 0 ≤ r ∧ r ≤ 31 := by
  induction n using EReal.rec with
  | bot => exact ⟨0, by simp [clip], le_refl _, by norm_num⟩
  | top => exact ⟨31, by simp [clip], by norm_num, le_refl _⟩
  | coe x => exact ⟨min 31 (max 0 x), by simp only [clip, EReal.coe_strictMono.monotone.map_min, EReal.coe_strictMono.monotone.map_max], by
      exact le_min (by norm_num) (le_max_left _ _), min_le_left _ _⟩

/-- A clamped cell is one of the 1024. -/
theorem cell_lt (nx ny : EReal) : (cell nx ny).toNat < 1024 := by
  obtain ⟨r, hr, r0, r1⟩ := clip_real nx
  obtain ⟨s, hs, s0, s1⟩ := clip_real ny
  have e : clip ny * ((32 : ℝ) : EReal) + clip nx = ((s * 32 + r : ℝ) : EReal) := by
    rw [hr, hs]; push_cast; rfl
  have p : (0 : ℝ) ≤ s * 32 + r := by positivity
  have q : ⌊s * 32 + r⌋ < 1024 := Int.floor_lt.2 (by push_cast; linarith)
  have q0 : 0 ≤ ⌊s * 32 + r⌋ := Int.floor_nonneg.2 p
  unfold cell Ideal.fptosi
  rw [e, Ideal.toIntClamped_coe, if_pos p]
  generalize ⌊s * 32 + r⌋ = z at q q0
  have : max (-((2 ^ (32 - 1) : ℕ) : ℤ)) (min (((2 ^ (32 - 1) : ℕ) : ℤ) - 1) z) = z := by
    norm_num; omega
  rw [this, BitVec.toNat_ofInt]
  omega

/-- Where a neighbour's coordinate is in `[0, 32)`, its weight is a real number that is not negative. -/
theorem wt_real (b : Bool) (g : EReal) (h0 : ((0 : ℝ) : EReal) ≤ nb b g) (h1 : nb b g < ((32 : ℝ) : EReal)) :
    ∃ r : ℝ, wt b g = (r : EReal) ∧ 0 ≤ r := by
  induction g using EReal.rec with
  | bot => exfalso; cases b <;> simp [nb, fl] at h0
  | top =>
    exfalso
    cases b <;> simp only [nb, fl, Ideal.liftRound_top, EReal.top_add_coe] at h1 <;> exact not_top_lt h1
  | coe x =>
    cases b
    · exact ⟨1 - (x - ⌊x⌋), by simp only [wt, fl, Ideal.liftRound_coe, ← EReal.coe_sub], by linarith [Int.lt_floor_add_one x]⟩
    · exact ⟨x - ⌊x⌋, by simp only [wt, fl, Ideal.liftRound_coe, ← EReal.coe_sub], by linarith [Int.floor_le x]⟩

/-- A share is a real number that is not negative. -/
theorem share_real (bx bY : Bool) (gx gy : EReal) : ∃ r : ℝ, share bx bY gx gy = (r : EReal) ∧ 0 ≤ r := by
  unfold share kept
  split
  · next h =>
    obtain ⟨r, hr, r0⟩ := wt_real bx gx h.1 h.2.1
    obtain ⟨s, hs, s0⟩ := wt_real bY gy h.2.2.1 h.2.2.2
    exact ⟨r * s, by rw [hr, hs, EReal.coe_mul], mul_nonneg r0 s0⟩
  · exact ⟨0, rfl, le_refl _⟩

/-- So is a part. -/
theorem part_real (bx bY : Bool) (c : ℕ) (gx gy : EReal) : ∃ r : ℝ, part bx bY c gx gy = (r : EReal) ∧ 0 ≤ r := by
  unfold part
  split
  · exact share_real bx bY gx gy
  · exact ⟨0, rfl, le_refl _⟩

/-- The scale written as a division by 30 and a product by 31. -/
theorem grid_div (t : EReal) :
    Ideal.div (t - ((-15 : ℝ) : EReal)) ((30 : ℝ) : EReal) * ((31 : ℝ) : EReal) = grid t := by
  rw [Ideal.div_coe (by norm_num), mul_assoc, ← EReal.coe_mul, grid]
  norm_num

section Sums
variable {ι : Type} [Fintype ι]

/-- A finite factor that is not negative comes out of a sum. -/
theorem sum_mul_real (f : ι → EReal) (r : ℝ) (hr : 0 ≤ r) : (∑ p, f p) * (r : EReal) = ∑ p, f p * (r : EReal) := by
  induction (Finset.univ : Finset ι) using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- A sum of real numbers is the real number of the sum. -/
theorem coe_sum (f : ι → ℝ) : ∑ p, (f p : EReal) = ((∑ p, f p : ℝ) : EReal) := by
  induction (Finset.univ : Finset ι) using Finset.induction_on with
  | empty => simp
  | insert a s ha ih => rw [Finset.sum_insert ha, Finset.sum_insert ha, ih, EReal.coe_add]

/-- Four weights, one after another, from zero. -/
def four (a b c d : EReal) : EReal := (((0 + a) + b) + c) + d

/-- The sum of the rows' four parts, part by part. -/
theorem sum_four (a b c d : ι → EReal) :
    ∑ p, four (a p) (b p) (c p) (d p) = four (∑ p, a p) (∑ p, b p) (∑ p, c p) (∑ p, d p) := by
  simp only [four, Finset.sum_add_distrib, Finset.sum_const_zero]

/-- A factor goes into four weights that are not negative. -/
theorem mul_four (f a b c d : EReal) (ha : 0 ≤ a) (hb : 0 ≤ b) (hc : 0 ≤ c) (hd : 0 ≤ d) :
    f * four a b c d = four (f * a) (f * b) (f * c) (f * d) := by
  unfold four
  rw [EReal.left_distrib_of_nonneg (by positivity) hd, EReal.left_distrib_of_nonneg (by positivity) hc,
    EReal.left_distrib_of_nonneg (by positivity) hb, EReal.left_distrib_of_nonneg le_rfl ha, mul_zero]

/-- Normalising the rows of a matrix of finite weights first, or dividing its product with the features afterwards. -/
theorem normalised (a b c d f : ι → EReal)
    (ha : ∀ p, ∃ r : ℝ, a p = (r : EReal) ∧ 0 ≤ r) (hb : ∀ p, ∃ r : ℝ, b p = (r : EReal) ∧ 0 ≤ r)
    (hc : ∀ p, ∃ r : ℝ, c p = (r : EReal) ∧ 0 ≤ r) (hd : ∀ p, ∃ r : ℝ, d p = (r : EReal) ∧ 0 ≤ r)
    (e : ℝ) (he : 0 < e) :
    ∑ p, (four (a p) (b p) (c p) (d p)
        * Ideal.div ((1 : ℝ) : EReal) (max (e : EReal) (∑ q, four (a q) (b q) (c q) (d q)))) * f p
      = Ideal.div (four (∑ p, f p * a p) (∑ p, f p * b p) (∑ p, f p * c p) (∑ p, f p * d p))
          (max (e : EReal) (four (∑ p, a p) (∑ p, b p) (∑ p, c p) (∑ p, d p))) := by
  choose a' ea ha using ha
  choose b' eb hb using hb
  choose c' ec hc using hc
  choose d' ed hd using hd
  rw [← sum_four, ← sum_four]
  have hf : ∀ p, four (f p * a p) (f p * b p) (f p * c p) (f p * d p) = f p * four (a p) (b p) (c p) (d p) := fun p =>
    (mul_four _ _ _ _ _ (by rw [ea]; exact EReal.coe_nonneg.2 (ha p)) (by rw [eb]; exact EReal.coe_nonneg.2 (hb p))
      (by rw [ec]; exact EReal.coe_nonneg.2 (hc p)) (by rw [ed]; exact EReal.coe_nonneg.2 (hd p))).symm
  rw [Finset.sum_congr rfl fun p _ => hf p]
  have hm : ∀ p, four (a p) (b p) (c p) (d p) = ((((0 + a' p) + b' p) + c' p + d' p : ℝ) : EReal) := fun p => by
    rw [four, ea, eb, ec, ed]; push_cast; rfl
  rw [Finset.sum_congr rfl fun p (_ : p ∈ Finset.univ) => hm p, coe_sum,
    ← EReal.coe_strictMono.monotone.map_max]
  generalize (∑ p, (0 + a' p + b' p + c' p + d' p)) = s
  have hr : 0 < max e s := lt_max_of_lt_left he
  generalize max e s = r at hr
  have hi : (0 : ℝ) ≤ 1 / r := by positivity
  rw [Ideal.div_coe hr.ne', Ideal.div_coe hr.ne', sum_mul_real _ _ hi, ← EReal.coe_mul, one_mul]
  refine Finset.sum_congr rfl fun p _ => ?_
  rw [mul_assoc, mul_comm ((1 / r : ℝ) : EReal), ← mul_assoc, mul_comm (f p)]

end Sums

end Cert.Splat
-- ==== Proof.Words.lean ====
/-
  The literals and the scalar chains both programs write, read at the extended reals: the bit patterns of the constants,
  the bit that says a cell is inside the grid, the word of a clamped cell, a word's number.
-/
module

public import proofs.«01_k».proof.Proof.Splat
public import Idealize.ShloMosaic.Lib.ValueIdxCore
public import Idealize.ShloMosaic.Lib.WordCmp

@[expose] public section

noncomputable section

open Idealize.ShloMosaic Idealize.ShloMosaic.ValueIdx
open scoped Classical

namespace Cert.Splat

theorem lit0 : (FloatOps.ofBits .f32 0x00000000#32 : Ideal .f32) = ((0 : ℝ) : EReal) := by
  rw [Ideal.ofBits_def, Ideal.ofBits_zero_f32]; rfl
theorem lit1 : (FloatOps.ofBits .f32 0x3F800000#32 : Ideal .f32) = ((1 : ℝ) : EReal) := by
  rw [Ideal.ofBits_def]; simp [Ideal.ofBits, Ideal.ieee, -EReal.coe_mul]; norm_num
theorem lit31 : (FloatOps.ofBits .f32 0x41F80000#32 : Ideal .f32) = ((31 : ℝ) : EReal) := by
  rw [Ideal.ofBits_def]; simp [Ideal.ofBits, Ideal.ieee, -EReal.coe_mul]; norm_num
theorem lit30 : (FloatOps.ofBits .f32 0x41F00000#32 : Ideal .f32) = ((30 : ℝ) : EReal) := by
  rw [Ideal.ofBits_def]; simp [Ideal.ofBits, Ideal.ieee, -EReal.coe_mul]; norm_num
theorem lit32 : (FloatOps.ofBits .f32 0x42000000#32 : Ideal .f32) = ((32 : ℝ) : EReal) := by
  rw [Ideal.ofBits_def]; simp [Ideal.ofBits, Ideal.ieee, -EReal.coe_mul]; norm_num
theorem litm15 : (FloatOps.ofBits .f32 0xC1700000#32 : Ideal .f32) = ((-15 : ℝ) : EReal) := by
  rw [Ideal.ofBits_def]; simp [Ideal.ofBits, Ideal.ieee, -EReal.coe_mul]; norm_num

/-- The least sum a row is divided by: the number the bits of `1e-6` stand for. -/
def eps : EReal := FloatOps.ofBits (F := Ideal) .f32 0x358637BD#32

/-- It is a positive real number. -/
theorem eps_pos : ∃ e : ℝ, eps = (e : EReal) ∧ 0 < e := by
  refine ⟨8796093 / 2 ^ 43, ?_, by positivity⟩
  rw [eps, Ideal.ofBits_def]; simp [Ideal.ofBits, Ideal.ieee, -EReal.coe_mul]; norm_num

section Answer
variable (X Y : Fin 1024 → EReal) (f : Fin 1024 → EReal) (c : ℕ)

/-- The weights the points at `(X, Y)` leave in cell `c`: one sum per neighbour, added up in order. -/
def weightAt : EReal :=
  four (∑ p, part false false c (X p) (Y p)) (∑ p, part true false c (X p) (Y p))
    (∑ p, part false true c (X p) (Y p)) (∑ p, part true true c (X p) (Y p))

/-- The features `f` the points leave there, before the division. -/
def gatherAt : EReal :=
  four (∑ p, f p * part false false c (X p) (Y p)) (∑ p, f p * part true false c (X p) (Y p))
    (∑ p, f p * part false true c (X p) (Y p)) (∑ p, f p * part true true c (X p) (Y p))

/-- The splatted feature of cell `c`: the gathered features over the clamped weights. -/
def worldAt : EReal := Ideal.div (gatherAt X Y f c) (max eps (weightAt X Y c))

end Answer

/-- The conjunction of two decided bits. -/
theorem andi_ofBool (a b : Bool) : IntOp.andi (BitVec.ofBool a) (BitVec.ofBool b) = BitVec.ofBool (a && b) := by
  cases a <;> cases b <;> rfl

/-- The bit both programs compute: the cell is inside the grid. -/
theorem inside_bit (nx ny : Ideal .f32) :
    IntOp.andi (IntOp.andi (IntOp.andi
        (FloatOps.cmpf .oge nx (FloatOps.ofBits .f32 0x00000000#32))
        (FloatOps.cmpf .olt nx (FloatOps.ofBits .f32 0x42000000#32)))
        (FloatOps.cmpf .oge ny (FloatOps.ofBits .f32 0x00000000#32)))
        (FloatOps.cmpf .olt ny (FloatOps.ofBits .f32 0x42000000#32))
      = BitVec.ofBool (decide (Inside nx ny)) := by
  rw [lit0, lit32]
  simp only [Ideal.cmpf_def, Ideal.cmp, andi_ofBool]
  congr 1
  rw [Bool.eq_iff_iff]
  rw [decide_eq_true_iff (p := Inside nx ny)]
  simp only [Bool.and_eq_true, decide_eq_true_eq, Inside, and_assoc]

/-- A selection by a decided bit. -/
theorem select_ofBool {α : Type} (q : Prop) [Decidable q] (x y : α) :
    Scalar.select (BitVec.ofBool (decide q)) x y = if q then x else y := by
  by_cases h : q
  · rw [if_pos h, decide_eq_true h]; rfl
  · rw [if_neg h, decide_eq_false h]; rfl

/-- A weight times the decided bit as a number is the weight where the bit is set. -/
theorem mul_bit (nx ny w : Ideal .f32) :
    FloatOps.mulf w (FloatOps.uitofp .f32 (BitVec.ofBool (decide (Inside nx ny)))) = kept nx ny w := by
  unfold kept
  by_cases h : Inside nx ny
  · rw [if_pos h, decide_eq_true h]
    show w * (((1 : ℕ) : ℝ) : EReal) = w
    simp
  · rw [if_neg h, decide_eq_false h]
    show w * (((0 : ℕ) : ℝ) : EReal) = 0
    simp

/-- The kernel's clamp. -/
theorem clip_lit (n : Ideal .f32) :
    FloatOps.minimumf (FloatOps.ofBits .f32 0x41F80000#32) (FloatOps.maximumf (FloatOps.ofBits .f32 0x00000000#32) n) = clip n := by
  rw [lit31, lit0]; rfl

/-- The reference's clamp, between two integers made floats. -/
theorem clip_int (n : Ideal .f32) :
    FloatOps.minimumf (FloatOps.sitofp .f32 31#32) (FloatOps.maximumf (FloatOps.sitofp .f32 0#32) n) = clip n := by
  show min (((31#32 : BitVec 32).toInt : ℝ) : EReal) (max (((0#32 : BitVec 32).toInt : ℝ) : EReal) n) = _
  rw [show (31#32 : BitVec 32).toInt = 31 from rfl, show (0#32 : BitVec 32).toInt = 0 from rfl]
  unfold clip
  push_cast
  rfl

/-- The word of a clamped cell, from its clamped coordinates. -/
theorem cell_word (nx ny : Ideal .f32) :
    FloatOps.fptosi (F := Ideal) (φ := .f32) 32
        (FloatOps.addf (F := Ideal) (φ := .f32) (FloatOps.mulf (F := Ideal) (φ := .f32) (clip ny) (FloatOps.ofBits .f32 0x42000000#32)) (clip nx))
      = cell nx ny := by
  rw [lit32]; rfl

/-- A word below 1024 is the word of `c` when its number is `c`. -/
theorem eq_word (b : BitVec 32) (c : Fin 1024) : b = BitVec.ofNat 32 c.val ↔ b.toNat = c.val := by
  have hc := c.isLt
  constructor
  · rintro rfl
    rw [BitVec.toNat_ofNat]; omega
  · intro h
    apply BitVec.eq_of_toNat_eq
    rw [BitVec.toNat_ofNat, h]; omega

/-- The kernel's choice of the row a point goes to. -/
theorem select_row {α : Type} (b : BitVec 32) (c : Fin 1024) (x y : α) :
    Scalar.select (IntOp.cmpi .eq b (BitVec.ofNat 32 c.val)) x y = if b.toNat = c.val then x else y := by
  rw [show IntOp.cmpi .eq b (BitVec.ofNat 32 c.val) = BitVec.ofBool (decide (b.toNat = c.val)) from ?_, select_ofBool]
  show BitVec.ofBool (b == BitVec.ofNat 32 c.val) = _
  congr 1
  rw [Bool.eq_iff_iff, beq_iff_eq, decide_eq_true_eq, eq_word]

end Cert.Splat
-- ==== Proof.KernelRead.lean ====
/-
  The kernel's matrix, row sums and products read at an index, over the extended reals.

  The body builds the routing matrix in four additions of the same kind (`addNeighbour`), one per neighbour. Each is read
  once: entry `(c, p)` gains `part`, what the neighbour of point `p` gives cell `c`. From there the normalised matrix, the
  row sums and the product of the matrix with a slab of features follow.
-/
module

public import proofs.«01_k».proof.Proof.Blocks
public import proofs.«01_k».proof.Proof.Words
public import Idealize.ShloMosaic.Lib.MatmulPlain
public import Idealize.ShloMosaic.Lib.Pipeline.Value

@[expose] public section

set_option maxRecDepth 16384

noncomputable section

open Idealize.ShloMosaic Idealize.ShloMosaic.TcCoe Idealize.SL.Sem
open Idealize.ShloMosaic.ValueIdx
open scoped Classical

namespace Cert.KernelIdeal.Splat

open Cert.KernelIdeal Cert.KernelIdeal.Gen Cert.Splat

section Generic
variable {F : FTy → Type} [FloatOps F] [Named F]

/-- One value in every lane. -/
abbrev lanes (b : BitVec 32) : FVec F S1x1024 .f32 := broadcast S1x1024 (Scalar.ofBits .f32 b)

/-- The bit of every point: its cell is inside the grid. -/
abbrev insideV (nx ny : FVec F S1x1024 .f32) : IVec S1x1024 1 :=
  andi (andi (andi (cmpf .oge nx (lanes 0x00000000#32)) (cmpf .olt nx (lanes 0x42000000#32)))
    (cmpf .oge ny (lanes 0x00000000#32))) (cmpf .olt ny (lanes 0x42000000#32))

/-- The word of every point's clamped cell. -/
abbrev cellV (nx ny : FVec F S1x1024 .f32) : IVec S1x1024 32 :=
  fptosi 32 (addf (mulf (minimumf (lanes 0x41F80000#32) (maximumf (lanes 0x00000000#32) ny)) (lanes 0x42000000#32))
    (minimumf (lanes 0x41F80000#32) (maximumf (lanes 0x00000000#32) nx)))

/-- The routing matrix with one more neighbour: the weights `w` of the points, each in the row of its cell `(nx, ny)`. -/
def addNeighbour (nx ny w : FVec F S1x1024 .f32) (M : FVec F S1024x1024 .f32) : FVec F S1024x1024 .f32 :=
  addf M (select (cmpi .eq (broadcastTo S1024x1024 (cellV nx ny) broadcasts_S1x1024_S1024x1024) rows)
    (broadcastTo S1024x1024 (shapeCast S1x1024 (select (insideV nx ny) w (lanes 0x00000000#32)) shapeCasts_S1x1024_S1x1024)
      broadcasts_S1x1024_S1024x1024)
    (broadcast S1024x1024 (Scalar.ofBits .f32 0x00000000#32)))

/-- The routing matrix is four neighbours added to zero. -/
theorem route_eq (x y : Vec F S1x1x1024 .f32) :
    route x y
      = addNeighbour (k0_pay8 x) (k0_pay9 y) (k0_pay17 x y)
          (addNeighbour (k0_pay6 x) (k0_pay9 y) (k0_pay16 x y)
            (addNeighbour (k0_pay8 x) (k0_pay7 y) (k0_pay15 x y)
              (addNeighbour (k0_pay6 x) (k0_pay7 y) (k0_pay14 x y) k0_pay18))) := rfl

/-- A row of lanes repeated over the rows of a matrix, at an entry. -/
theorem lanes_apply {α : Type} (v : S1x1024.Idx → α) (c p : Fin 1024) :
    broadcastTo S1024x1024 v broadcasts_S1x1024_S1024x1024 (ix2 c p) = v (ix2 (0 : Fin 1) p) :=
  broadcastTo_apply v _ (ix2 c p) (ix2 (0 : Fin 1) p) fun a => by fin_cases a <;> rfl

/-- The row number of an entry. -/
theorem rows_apply (c p : Fin 1024) : rows (ix2 c p) = BitVec.ofNat 32 c.val := by
  show BitVec.ofNat 32 (0 * 1024 + c.val) = _
  rw [Nat.zero_mul, Nat.zero_add]

/-- The routing matrix with every row divided by its clamped sum. -/
def normalRows (M : FVec F S1024x1024 .f32) : FVec F S1024x1024 .bf16 :=
  truncf .bf16 (mulf M (broadcastTo S1024x1024 (divf (broadcast S1024x1 (Scalar.ofBits .f32 0x3F800000#32))
    (maximumf (broadcast S1024x1 (Scalar.ofBits .f32 0x358637BD#32))
      (shapeCast S1024x1 (multiReduction .add [1] S1024 M 0x00000000#32 reduces_S1024x1024_S1024 (.inl rfl) rfl)
        shapeCasts_S1024_S1024x1))) broadcasts_S1024x1_S1024x1024)) bitsLt_bf16_f32

/-- The matrix the body keeps is that of its routing matrix. -/
theorem routeM_eq (x y : Vec F S1x1x1024 .f32) : routeM x y = normalRows (route x y) :=
  (show routeM x y = shapeCast S1024x1024 (normalRows (route x y)) shapeCasts_S1024x1024_S1024x1024 from rfl).trans
    (shapeCast_self _ _)

/-- A block of coordinates as lanes. -/
theorem block_lanes {α : Type} (v : S1x1x1024.Idx → α) (p : Fin 1024) :
    shapeCast S1x1024 v shapeCasts_S1x1x1024_S1x1024 (ix2 (0 : Fin 1) p) = v (ix3 (0 : Fin 1) (0 : Fin 1) p) :=
  shapeCast_apply v _ (ix2 (0 : Fin 1) p) (ix3 (0 : Fin 1) (0 : Fin 1) p) (by
    rw [Shape.rowMajor_val_three, Shape.rowMajor_val_two]; rfl)

end Generic

/-- One more neighbour, at an entry. -/
theorem addNeighbour_apply (nx ny w : FVec Ideal S1x1024 .f32) (M : FVec Ideal S1024x1024 .f32) (c p : Fin 1024) :
    addNeighbour nx ny w M (ix2 c p)
      = M (ix2 c p) + (if (cell (nx (ix2 (0 : Fin 1) p)) (ny (ix2 (0 : Fin 1) p))).toNat = c.val
          then kept (nx (ix2 (0 : Fin 1) p)) (ny (ix2 (0 : Fin 1) p)) (w (ix2 (0 : Fin 1) p)) else (0 : EReal)) := by
  unfold addNeighbour
  rw [shapeCast_self]
  show M (ix2 c p) + Scalar.select (IntOp.cmpi .eq (broadcastTo S1024x1024 (cellV nx ny) broadcasts_S1x1024_S1024x1024 (ix2 c p))
      (rows (ix2 c p))) (broadcastTo S1024x1024 (select (insideV nx ny) w (lanes 0x00000000#32)) broadcasts_S1x1024_S1024x1024 (ix2 c p))
      (FloatOps.ofBits (F := Ideal) .f32 0x00000000#32) = _
  rw [lanes_apply, lanes_apply, rows_apply, select_row]
  generalize hj : ix2 (0 : Fin 1) p = j
  have e1 : cellV nx ny j = cell (nx j) (ny j) := by
    rw [← cell_word, ← clip_lit, ← clip_lit]; rfl
  have e2 : select (insideV nx ny) w (lanes 0x00000000#32) j = kept (nx j) (ny j) (w j) := by
    show Scalar.select (insideV nx ny j) (w j) (FloatOps.ofBits (F := Ideal) .f32 0x00000000#32) = _
    rw [show insideV nx ny j = BitVec.ofBool (decide (Inside (nx j) (ny j))) from (inside_bit (nx j) (ny j)), select_ofBool, lit0]
    rfl
  rw [e1, e2, lit0]
  rfl

/-- A point's coordinate in grid units, first axis. -/
theorem gx_apply (x : Vec Ideal S1x1x1024 .f32) (p : Fin 1024) :
    k0_pay4 x (ix2 (0 : Fin 1) p) = grid (x (ix3 (0 : Fin 1) (0 : Fin 1) p)) := by
  show (shapeCast S1x1024 x shapeCasts_S1x1x1024_S1x1024 (ix2 (0 : Fin 1) p) - FloatOps.ofBits (F := Ideal) .f32 0xC1700000#32)
    * (Named.named κ "cells_per_mm" 0x3F844444#32 : Ideal .f32) = _
  rw [block_lanes, litm15, show (Named.named κ "cells_per_mm" 0x3F844444#32 : Ideal .f32) = ((31 / 30 : ℝ) : EReal) from
    IdealRules.named_const.ideal_named_scalar _ _ _ _ rfl]
  rfl

/-- A point's coordinate in grid units, second axis. -/
theorem gy_apply (y : Vec Ideal S1x1x1024 .f32) (p : Fin 1024) :
    k0_pay5 y (ix2 (0 : Fin 1) p) = grid (y (ix3 (0 : Fin 1) (0 : Fin 1) p)) := gx_apply y p

/-- The coordinates and the weights of the neighbours, both axes. -/
theorem axis_apply (x : Vec Ideal S1x1x1024 .f32) (p : Fin 1024) :
    k0_pay6 x (ix2 (0 : Fin 1) p) = nb false (grid (x (ix3 (0 : Fin 1) (0 : Fin 1) p)))
      ∧ k0_pay8 x (ix2 (0 : Fin 1) p) = nb true (grid (x (ix3 (0 : Fin 1) (0 : Fin 1) p)))
      ∧ k0_pay12 x (ix2 (0 : Fin 1) p) = wt false (grid (x (ix3 (0 : Fin 1) (0 : Fin 1) p)))
      ∧ k0_pay10 x (ix2 (0 : Fin 1) p) = wt true (grid (x (ix3 (0 : Fin 1) (0 : Fin 1) p))) := by
  rw [← gx_apply]
  refine ⟨rfl, ?_, ?_, rfl⟩
  · show _ + FloatOps.ofBits (F := Ideal) .f32 0x3F800000#32 = _
    rw [lit1]; rfl
  · show FloatOps.ofBits (F := Ideal) .f32 0x3F800000#32 - _ = _
    rw [lit1]; rfl

/-- The point `p` of a pair of blocks, in grid units. -/
abbrev gridAt (x : Vec Ideal S1x1x1024 .f32) (p : Fin 1024) : EReal := grid (x (ix3 (0 : Fin 1) (0 : Fin 1) p))

/-- What the four neighbours of a point give a cell, added up in order. -/
abbrev entry (c : ℕ) (gx gy : EReal) : EReal :=
  four (part false false c gx gy) (part true false c gx gy) (part false true c gx gy) (part true true c gx gy)

/-- The routing matrix at an entry. -/
theorem route_apply (x y : Vec Ideal S1x1x1024 .f32) (c p : Fin 1024) :
    route x y (ix2 c p) = entry c.val (gridAt x p) (gridAt y p) := by
  rw [route_eq]
  simp only [addNeighbour_apply]
  obtain ⟨a1, a2, a3, a4⟩ := axis_apply x p
  obtain ⟨b1, b2, b3, b4⟩ := axis_apply y p
  rw [show k0_pay18 (F := Ideal) (ix2 c p) = 0 from lit0,
    show k0_pay14 x y (ix2 (0 : Fin 1) p) = k0_pay12 x (ix2 (0 : Fin 1) p) * k0_pay12 y (ix2 (0 : Fin 1) p) from rfl,
    show k0_pay15 x y (ix2 (0 : Fin 1) p) = k0_pay10 x (ix2 (0 : Fin 1) p) * k0_pay12 y (ix2 (0 : Fin 1) p) from rfl,
    show k0_pay16 x y (ix2 (0 : Fin 1) p) = k0_pay12 x (ix2 (0 : Fin 1) p) * k0_pay10 y (ix2 (0 : Fin 1) p) from rfl,
    show k0_pay17 x y (ix2 (0 : Fin 1) p) = k0_pay10 x (ix2 (0 : Fin 1) p) * k0_pay10 y (ix2 (0 : Fin 1) p) from rfl,
    show k0_pay7 y (ix2 (0 : Fin 1) p) = k0_pay6 y (ix2 (0 : Fin 1) p) from rfl,
    show k0_pay9 y (ix2 (0 : Fin 1) p) = k0_pay8 y (ix2 (0 : Fin 1) p) from rfl, a1, a2, a3, a4, b1, b2, b3, b4]
  rfl

/-- The sum of a row of the routing matrix. -/
theorem row_sum (M : FVec Ideal S1024x1024 .f32) (c : Fin 1024) :
    multiReduction .add [1] S1024 M 0x00000000#32 reduces_S1024x1024_S1024 (.inl rfl) rfl (ix1 c) = ∑ p : Fin 1024, M (ix2 c p) := by
  refine (Ideal.multiReduction_add_single (s := S1024x1024) (t := S1024) (a := (1 : Fin 2)) M 0x00000000#32 reduces_S1024x1024_S1024 (.inl rfl) rfl (ix1 c)).trans ?_
  refine Finset.sum_congr rfl fun p _ => congrArg M (funext fun a => Fin.ext ?_)
  rw [Shape.Reduces.lift_val]
  match a with
  | ⟨0, _⟩ => rfl
  | ⟨1, _⟩ => rfl

/-- The normalised matrix at an entry: the entry times one over the clamped sum of its row. -/
theorem routeM_apply (x y : Vec Ideal S1x1x1024 .f32) (c p : Fin 1024) :
    routeM x y (ix2 c p)
      = route x y (ix2 c p) * Ideal.div ((1 : ℝ) : EReal) (max eps (∑ q : Fin 1024, route x y (ix2 c q))) := by
  rw [routeM_eq]
  generalize route x y = M
  show M (ix2 c p) * broadcastTo S1024x1024 (divf (F := Ideal) (broadcast S1024x1 (Scalar.ofBits .f32 0x3F800000#32))
      (maximumf (broadcast S1024x1 (Scalar.ofBits .f32 0x358637BD#32))
        (shapeCast S1024x1 (multiReduction .add [1] S1024 M 0x00000000#32 reduces_S1024x1024_S1024 (.inl rfl) rfl)
          shapeCasts_S1024_S1024x1))) broadcasts_S1024x1_S1024x1024 (ix2 c p) = _
  rw [broadcastTo_apply _ broadcasts_S1024x1_S1024x1024 (ix2 c p) (ix2 c (0 : Fin 1)) fun a => by fin_cases a <;> rfl]
  show _ * Ideal.div (FloatOps.ofBits (F := Ideal) .f32 0x3F800000#32) (max eps (shapeCast S1024x1 _ shapeCasts_S1024_S1024x1 (ix2 c (0 : Fin 1)))) = _
  rw [shapeCast_apply _ shapeCasts_S1024_S1024x1 (ix2 c (0 : Fin 1)) (ix1 c) (by
    rw [Shape.rowMajor_val_one, Shape.rowMajor_val_two]
    show c.val = c.val * 1 + 0
    omega), row_sum, lit1]

/-- A slab of features multiplied by a matrix, at an entry. -/
theorem product_apply (f : Vec Ideal S1x1x1024x128 .f32) (M : Vec Ideal S1024x1024 .bf16) (c : Fin 1024) (d : Fin 128) :
    k0_pay30 f M (ix4 (0 : Fin 1) (0 : Fin 1) c d) = ∑ p : Fin 1024, M (ix2 c p) * f (ix4 (0 : Fin 1) (0 : Fin 1) p d) := by
  show shapeCast S1x1x1024x128 (matmul (F := Ideal) (DotDims.plain 1024 1024 128) none M
    (shapeCast S1024x128 f shapeCasts_S1x1x1024x128_S1024x128 : FVec Ideal S1024x128 .bf16) (constant S1024x128 .f32 0x00000000#32))
    shapeCasts_S1024x128_S1x1x1024x128 (ix4 (0 : Fin 1) (0 : Fin 1) c d) = _
  rw [shapeCast_apply _ shapeCasts_S1024x128_S1x1x1024x128 (ix4 (0 : Fin 1) (0 : Fin 1) c d) (ix2 c d) (by
    rw [Shape.rowMajor_val_four, Shape.rowMajor_val_two]
    show c.val * 128 + d.val = ((0 * 1 + 0) * 1024 + c.val) * 128 + d.val
    omega)]
  refine (Ideal.matmul_plain_apply none _ _ _ c d).trans ?_
  rw [show constant (F := Ideal) S1024x128 .f32 0x00000000#32 (ix2 c d) = 0 from lit0, zero_add]
  refine Finset.sum_congr rfl fun p _ => congrArg (M (ix2 c p) * ·) ?_
  exact shapeCast_apply f shapeCasts_S1x1x1024x128_S1024x128 (ix2 p d) (ix4 (0 : Fin 1) (0 : Fin 1) p d) (by
    rw [Shape.rowMajor_val_four, Shape.rowMajor_val_two]
    show ((0 * 1 + 0) * 1024 + p.val) * 128 + d.val = p.val * 128 + d.val
    omega)

/-- The row sums the body keeps, at an entry. -/
theorem rowW_apply (x y : Vec Ideal S1x1x1024 .f32) (r : Fin 8) (c : Fin 1024) :
    rowW x y (ix2 r c) = ∑ p : Fin 1024, route x y (ix2 c p) := by
  show shapeCast S8x1024 (matmul (F := Ideal) (DotDims.transposedRhs 8 1024 1024) none
    (broadcast S8x1024 (Scalar.ofBits .f32 0x3F800000#32)) (route x y) (constant S8x1024 .f32 0x00000000#32))
    shapeCasts_S8x1024_S8x1024 (ix2 r c) = _
  rw [shapeCast_self]
  refine (Ideal.matmul_transposedRhs_apply none _ _ _ r c).trans ?_
  rw [show constant (F := Ideal) S8x1024 .f32 0x00000000#32 (ix2 r c) = 0 from lit0, zero_add]
  refine Finset.sum_congr rfl fun p _ => ?_
  rw [show broadcast S8x1024 (Scalar.ofBits (F := Ideal) .f32 0x3F800000#32) (ix2 r p) = ((1 : ℝ) : EReal) from lit1]
  exact one_mul _

variable (m : (ℓ : Loc nD τ sig) → Buf (Elt Ideal) ℓ) (c : Dev nD)

/-- The first coordinate of point `p` of batch `b`, in grid units. -/
abbrev gridX (b : Fin 8) (p : Fin 1024) : EReal := grid (m ((c : Thread nD τ).loc main_arg1) (ix4 b (hi p) (lo p) (0 : Fin 2)))
/-- The second coordinate. -/
abbrev gridY (b : Fin 8) (p : Fin 1024) : EReal := grid (m ((c : Thread nD τ).loc main_arg1) (ix4 b (hi p) (lo p) (1 : Fin 2)))

/-- The batch's routing matrix at an entry, from the arguments. -/
theorem route_at (b : Fin 8) (k p : Fin 1024) :
    route (xs m c b) (ys m c b) (ix2 k p) = entry k.val (gridX m c b p) (gridY m c b p) := by
  rw [route_apply]
  exact congrArg₂ (fun u v => entry k.val (grid u) (grid v)) (entry_x m c b p) (entry_y m c b p)

/-- The first result at an element: the splatted feature. -/
theorem res0_at (b : Fin 8) (n : Fin 16) (d : Fin 128) (y x : Fin 32) :
    res0 (F := Ideal) (world m c) (ix5 b n d y x)
      = worldAt (gridX m c b) (gridY m c b) (fun p => m ((c : Thread nD τ).loc main_arg0) (ix5 b n d (hi p) (lo p))) (pix y x).val := by
  rw [res0_world]
  refine (product_apply (fs m c b n) (matOf m c b) (pix y x) d).trans ?_
  obtain ⟨e, he, hp⟩ := eps_pos
  have hf : ∀ p : Fin 1024, fs m c b n (ix4 (0 : Fin 1) (0 : Fin 1) p d)
      = m ((c : Thread nD τ).loc main_arg0) (ix5 b n d (hi p) (lo p)) := fun p => entry_feats m c b n p d
  simp only [routeM_apply, route_at, hf, worldAt, weightAt, gatherAt, he]
  exact normalised _ _ _ _ _ (fun p => part_real _ _ _ _ _) (fun p => part_real _ _ _ _ _) (fun p => part_real _ _ _ _ _)
    (fun p => part_real _ _ _ _ _) e hp

/-- The second result at an element: the weights. -/
theorem res1_at (b : Fin 8) (n : Fin 16) (y x : Fin 32) :
    res1 (F := Ideal) (rowsums m c) (ix5 b n (0 : Fin 1) y x) = weightAt (gridX m c b) (gridY m c b) (pix y x).val := by
  rw [res1_rows]
  show shapeCast S1x8x1024 (sumOf m c b) shapeCasts_S8x1024_S1x8x1024 (ix3 (0 : Fin 1) (0 : Fin 8) (pix y x)) = _
  rw [shapeCast_apply _ _ _ (ix2 (0 : Fin 8) (pix y x)) (by rw [Shape.rowMajor_val_two, Shape.rowMajor_val_three]; rfl)]
  refine (rowW_apply (xs m c b) (ys m c b) 0 (pix y x)).trans ?_
  simp only [route_at]
  exact sum_four _ _ _ _

end Cert.KernelIdeal.Splat
-- ==== Proof.RefScatter.lean ====
/-
  The reference's two scatters, read at an element as a sum over the points.

  The reference adds one neighbour at a time: `addWorld` scatters the weighted features of the points into the cells of the
  neighbours, `addWeight` the weights. Each index is a triple of words (frame, channel, cell), none of them negative, and
  each update lands on the element its triple names; so an element gains the sum of the updates of the points of its
  frame whose cell it is.
-/
module

public import proofs.«01_k».proof.Proof.Gen.ReferenceIdeal.Read
public import proofs.«01_k».proof.Proof.Words
public import Idealize.ShloMosaic.Lib.Routing.OpsPair
public import Idealize.ShloMosaic.Lib.Pipeline.Value

@[expose] public section

set_option maxRecDepth 16384

noncomputable section

open Idealize.ShloMosaic Idealize.ShloMosaic.TcCoe Idealize.SL.Sem
open Idealize.ShloMosaic.ValueIdx
open scoped Classical

namespace Cert.ReferenceIdeal.Splat

open Cert.ReferenceIdeal Cert.ReferenceIdeal.Gen Cert.Splat

section Generic
variable {F : FTy → Type} [FloatOps F]

/-- One value at every point. -/
abbrev points (b : BitVec 32) : FVec F S8x32x32 .f32 := broadcastInDim S8x32x32 ![] bcast_S_S8x32x32 (constant S_ .f32 b)
/-- One integer at every point, as a float. -/
abbrev intPoints (b : BitVec 32) : FVec F S8x32x32 .f32 := broadcastInDim S8x32x32 ![] bcast_S_S8x32x32 (sitofp .f32 (constantI S_ 32 b))

/-- The bit of every point: its cell is inside the grid. -/
abbrev insideV (nx ny : FVec F S8x32x32 .f32) : IVec S8x32x32 1 :=
  andi (andi (andi (cmpf .oge nx (points 0x00000000#32)) (cmpf .olt nx (points 0x42000000#32)))
    (cmpf .oge ny (points 0x00000000#32))) (cmpf .olt ny (points 0x42000000#32))

/-- The word of every point's clamped cell. -/
abbrev cellV (nx ny : FVec F S8x32x32 .f32) : IVec S8x32x32 32 :=
  fptosi 32 (addf (mulf (minimumf (intPoints 31#32) (maximumf (intPoints 0#32) ny)) (points 0x42000000#32))
    (minimumf (intPoints 31#32) (maximumf (intPoints 0#32) nx)))

/-- The cell words, one row of points per frame. -/
def cells (nx ny : FVec F S8x32x32 .f32) : IVec S128x1024 32 :=
  shapeCast S128x1024 (broadcastInDim S8x16x1024 ![0, 1, 2] bcast_S8x1x1024_S8x16x1024_0_1_2
    (broadcastInDim S8x1x1024 ![0, 2] bcast_S8x1024_S8x1x1024_0_2 (shapeCast S8x1024 (cellV nx ny) shapeCasts_S8x32x32_S8x1024)))
    shapeCasts_S8x16x1024_S128x1024

/-- The weights, zero where the cell is outside the grid, one row of points per frame. -/
def weights (nx ny w : FVec F S8x32x32 .f32) : FVec F S128x1024 .f32 :=
  shapeCast S128x1024 (broadcastInDim S8x16x1024 ![0, 1, 2] bcast_S8x1x1024_S8x16x1024_0_1_2
    (shapeCast S8x1x1024 (mulf w (uitofp .f32 (insideV nx ny))) shapeCasts_S8x32x32_S8x1x1024))
    shapeCasts_S8x16x1024_S128x1024

/-- A word wrapped as an index into an axis of `n`: a negative one counts from the end. -/
abbrev wrap {s : Shape} (h : S_.BroadcastsInDim s ![]) (n : BitVec 32) (x : IVec s 32) : IVec s 32 :=
  select (cmpi .slt x (broadcastInDim s ![] h (constantI S_ 32 0#32))) (addi x (broadcastInDim s ![] h (constantI S_ 32 n))) x

/-- The index triples of the features' scatter: frame, channel, cell. -/
def triples (k : IVec S128x1024 32) : IVec S128x128x1024x3 32 :=
  concatenate S128x128x1024x3 3
    [⟨S128x128x1024x1, broadcastInDim S128x128x1024x1 ![0, 1, 2] bcast_S128x128x1024_S128x128x1024x1_0_1_2
      (broadcastInDim S128x128x1024 ![0, 1, 2] bcast_S128x1x1_S128x128x1024_0_1_2
        (wrap bcast_S_S128x1x1 128#32 (broadcastInDim S128x1x1 ![0] bcast_S128_S128x1x1_0 (iotaInDim S128 32 0))))⟩,
     ⟨S128x128x1024x1, broadcastInDim S128x128x1024x1 ![0, 1, 2] bcast_S128x128x1024_S128x128x1024x1_0_1_2
      (broadcastInDim S128x128x1024 ![0, 1, 2] bcast_S1x128x1_S128x128x1024_0_1_2
        (wrap bcast_S_S1x128x1 128#32 (broadcastInDim S1x128x1 ![1] bcast_S128_S1x128x1_1 (iotaInDim S128 32 0))))⟩,
     ⟨S128x128x1024x1, broadcastInDim S128x128x1024x1 ![0, 1, 2] bcast_S128x128x1024_S128x128x1024x1_0_1_2
      (broadcastInDim S128x128x1024 ![0, 1, 2] bcast_S128x1x1024_S128x128x1024_0_1_2
        (wrap bcast_S_S128x1x1024 1024#32 (broadcastInDim S128x1x1024 ![0, 2] bcast_S128x1024_S128x1x1024_0_2 k)))⟩]
    concatenates_S128x128x1024x1_S128x128x1024x1_S128x128x1024x1_S128x128x1024x3_d3

/-- The index triples of the weights' scatter: frame, zero, cell. -/
def pairs (k : IVec S128x1024 32) : IVec S128x1024x3 32 :=
  concatenate S128x1024x3 2
    [⟨S128x1024x1, broadcastInDim S128x1024x1 ![0, 1] bcast_S128x1024_S128x1024x1_0_1
      (broadcastInDim S128x1024 ![0, 1] bcast_S128x1_S128x1024_0_1
        (wrap bcast_S_S128x1 128#32 (broadcastInDim S128x1 ![0] bcast_S128_S128x1_0 (iotaInDim S128 32 0))))⟩,
     ⟨S128x1024x1, broadcastInDim S128x1024x1 ![0, 1] bcast_S128x1024_S128x1024x1_0_1
      (broadcastInDim S128x1024 ![] bcast_S_S128x1024 (constantI S_ 32 0#32))⟩,
     ⟨S128x1024x1, broadcastInDim S128x1024x1 ![0, 1] bcast_S128x1024_S128x1024x1_0_1 (wrap bcast_S_S128x1024 1024#32 k)⟩]
    concatenates_S128x1024x1_S128x1024x1_S128x1024x1_S128x1024x3_d2

/-- The features times the weights of their points. -/
def weighted (f : FVec F S8x16x128x1024 .f32) (w : FVec F S128x1024 .f32) : FVec F S128x128x1024 .f32 :=
  mulf (shapeCast S128x128x1024 f shapeCasts_S8x16x128x1024_S128x128x1024)
    (broadcastInDim S128x128x1024 ![0, 1, 2] bcast_S128x1x1024_S128x128x1024_0_1_2
      (broadcastInDim S128x1x1024 ![0, 2] bcast_S128x1024_S128x1x1024_0_2 w))

/-- One more neighbour in the splatted features. -/
def addWorld (f : FVec F S8x16x128x1024 .f32) (nx ny w : FVec F S8x32x32 .f32) (base : FVec F S128x128x1024 .f32) :
    FVec F S128x128x1024 .f32 :=
  Host.scatterAdd scatter_S128x128x1024_S128x128x1024x3_S128x128x1024_n_012_012_3 base (triples (cells nx ny))
    (weighted f (weights nx ny w))

/-- One more neighbour in the splatted weights. -/
def addWeight (nx ny w : FVec F S8x32x32 .f32) (base : FVec F S128x1x1024 .f32) : FVec F S128x1x1024 .f32 :=
  Host.scatterAdd scatter_S128x1x1024_S128x1024x3_S128x1024_n_012_012_2 base (pairs (cells nx ny)) (weights nx ny w)

open Cert.ReferenceIdeal.Read

variable (x0 : (⟨S8x16x128x32x32, .f32⟩ : BufTy).Contents (Elt F)) (x1 : (⟨S8x32x32x2, .f32⟩ : BufTy).Contents (Elt F))

/-- The reference's features are four neighbours added to zero. -/
theorem world_eq :
    val_main_v310 x0 x1
      = addWorld (val_main_v32 x0) (val_main_v19 x1) (val_main_v21 x1) (val_main_v31 x1)
          (addWorld (val_main_v32 x0) (val_main_v16 x1) (val_main_v21 x1) (val_main_v30 x1)
            (addWorld (val_main_v32 x0) (val_main_v19 x1) (val_main_v17 x1) (val_main_v29 x1)
              (addWorld (val_main_v32 x0) (val_main_v16 x1) (val_main_v17 x1) (val_main_v28 x1) val_main_v33))) := rfl

/-- The reference's weights are four neighbours added to zero. -/
theorem weight_eq :
    val_main_v328 x1
      = addWeight (val_main_v19 x1) (val_main_v21 x1) (val_main_v31 x1)
          (addWeight (val_main_v16 x1) (val_main_v21 x1) (val_main_v30 x1)
            (addWeight (val_main_v19 x1) (val_main_v17 x1) (val_main_v29 x1)
              (addWeight (val_main_v16 x1) (val_main_v17 x1) (val_main_v28 x1) val_main_v34))) := rfl

end Generic

/-- The word of a number below `2 ^ 31`, wrapped, is itself. -/
theorem wrap_word {s : Shape} (h : S_.BroadcastsInDim s ![]) (n : BitVec 32) (x : IVec s 32) (i : s.Idx) (hx : (x i).toNat < 2 ^ 31) :
    wrap h n x i = x i :=
  Routing.wrap_of_lt (x i) _ hx

/-- The three words of a triple. -/
theorem triples_apply (k : IVec S128x1024 32) (a d : Fin 128) (p : Fin 1024) (hk : (k (ix2 a p)).toNat < 1024) :
    triples k (ix4 a d p (0 : Fin 3)) = BitVec.ofNat 32 a.val ∧ triples k (ix4 a d p (1 : Fin 3)) = BitVec.ofNat 32 d.val
      ∧ triples k (ix4 a d p (2 : Fin 3)) = k (ix2 a p) := by
  have small : ∀ q : Fin 128, (BitVec.ofNat 32 q.val).toNat < 2 ^ 31 := fun q => by
    have := q.isLt
    rw [BitVec.toNat_ofNat]; omega
  have last : ∀ (x : IVec S128x128x1024 32), broadcastInDim S128x128x1024x1 ![0, 1, 2] bcast_S128x128x1024_S128x128x1024x1_0_1_2 x
      (ix4 a d p (0 : Fin 1)) = x (ix3 a d p) := fun x =>
    broadcastInDim_apply _ _ x _ (ix3 a d p) fun q => by fin_cases q <;> rfl
  unfold triples
  generalize h0 : broadcastInDim S128x1x1 ![0] bcast_S128_S128x1x1_0 (iotaInDim S128 32 0) = i0
  generalize h1 : broadcastInDim S1x128x1 ![1] bcast_S128_S1x128x1_1 (iotaInDim S128 32 0) = i1
  have e0 : i0 (ix3 a (0 : Fin 1) (0 : Fin 1)) = BitVec.ofNat 32 a.val := by
    rw [← h0]
    exact broadcastInDim_apply _ _ _ _ (ix1 a) fun q => by fin_cases q <;> rfl
  have e1 : i1 (ix3 (0 : Fin 1) d (0 : Fin 1)) = BitVec.ofNat 32 d.val := by
    rw [← h1]
    exact broadcastInDim_apply _ _ _ _ (ix1 d) fun q => by fin_cases q <;> rfl
  have e2 : broadcastInDim S128x1x1024 ![0, 2] bcast_S128x1024_S128x1x1024_0_2 k (ix3 a (0 : Fin 1) p) = k (ix2 a p) :=
    broadcastInDim_apply _ _ _ _ (ix2 a p) fun q => by fin_cases q <;> rfl
  generalize g0 : broadcastInDim S128x128x1024x1 ![0, 1, 2] bcast_S128x128x1024_S128x128x1024x1_0_1_2
      (broadcastInDim S128x128x1024 ![0, 1, 2] bcast_S128x1x1_S128x128x1024_0_1_2 (wrap bcast_S_S128x1x1 128#32 i0)) = w0
  generalize g1 : broadcastInDim S128x128x1024x1 ![0, 1, 2] bcast_S128x128x1024_S128x128x1024x1_0_1_2
      (broadcastInDim S128x128x1024 ![0, 1, 2] bcast_S1x128x1_S128x128x1024_0_1_2 (wrap bcast_S_S1x128x1 128#32 i1)) = w1
  generalize g2 : broadcastInDim S128x128x1024x1 ![0, 1, 2] bcast_S128x128x1024_S128x128x1024x1_0_1_2
      (broadcastInDim S128x128x1024 ![0, 1, 2] bcast_S128x1x1024_S128x128x1024_0_1_2
        (wrap bcast_S_S128x1x1024 1024#32 (broadcastInDim S128x1x1024 ![0, 2] bcast_S128x1024_S128x1x1024_0_2 k))) = w2
  have r0 : w0 (ix4 a d p (0 : Fin 1)) = BitVec.ofNat 32 a.val := by
    rw [← g0, last, broadcastInDim_apply _ _ _ _ (ix3 a (0 : Fin 1) (0 : Fin 1)) fun q => by fin_cases q <;> rfl,
      wrap_word _ _ _ _ (by rw [e0]; exact small a), e0]
  have r1 : w1 (ix4 a d p (0 : Fin 1)) = BitVec.ofNat 32 d.val := by
    rw [← g1, last, broadcastInDim_apply _ _ _ _ (ix3 (0 : Fin 1) d (0 : Fin 1)) fun q => by fin_cases q <;> rfl,
      wrap_word _ _ _ _ (by rw [e1]; exact small d), e1]
  have r2 : w2 (ix4 a d p (0 : Fin 1)) = k (ix2 a p) := by
    rw [← g2, last, broadcastInDim_apply _ _ _ _ (ix3 a (0 : Fin 1) p) fun q => by fin_cases q <;> rfl,
      wrap_word _ _ _ _ (by rw [e2]; omega), e2]
  have joined : ∀ q : Fin 3, concatenate S128x128x1024x3 3 [⟨S128x128x1024x1, w0⟩, ⟨S128x128x1024x1, w1⟩, ⟨S128x128x1024x1, w2⟩]
      concatenates_S128x128x1024x1_S128x128x1024x1_S128x128x1024x1_S128x128x1024x3_d3 (ix4 a d p q)
        = (![w0, w1, w2] : Fin 3 → IVec S128x128x1024x1 32) q (ix4 a d p (0 : Fin 1)) := fun q =>
    concatenate_ofFn_unit_apply (t := S128x128x1024x3) (s₁ := S128x128x1024x1) 3 (![w0, w1, w2] : Fin 3 → IVec S128x128x1024x1 32)
      concatenates_S128x128x1024x1_S128x128x1024x1_S128x128x1024x1_S128x128x1024x3_d3 rfl rfl (ix4 a d p q) q rfl
      (ix4 a d p (0 : Fin 1)) fun b hb => by fin_cases b <;> first | rfl | exact absurd rfl hb
  exact ⟨(joined 0).trans r0, (joined 1).trans r1, (joined 2).trans r2⟩

/-- The three words of a weight's triple. -/
theorem pairs_apply (k : IVec S128x1024 32) (a : Fin 128) (p : Fin 1024) (hk : (k (ix2 a p)).toNat < 1024) :
    pairs k (ix3 a p (0 : Fin 3)) = BitVec.ofNat 32 a.val ∧ pairs k (ix3 a p (1 : Fin 3)) = 0#32
      ∧ pairs k (ix3 a p (2 : Fin 3)) = k (ix2 a p) := by
  have last : ∀ (x : IVec S128x1024 32), broadcastInDim S128x1024x1 ![0, 1] bcast_S128x1024_S128x1024x1_0_1 x
      (ix3 a p (0 : Fin 1)) = x (ix2 a p) := fun x =>
    broadcastInDim_apply _ _ x _ (ix2 a p) fun q => by fin_cases q <;> rfl
  unfold pairs
  generalize h0 : broadcastInDim S128x1 ![0] bcast_S128_S128x1_0 (iotaInDim S128 32 0) = i0
  have e0 : i0 (ix2 a (0 : Fin 1)) = BitVec.ofNat 32 a.val := by
    rw [← h0]
    exact broadcastInDim_apply _ _ _ _ (ix1 a) fun q => by fin_cases q <;> rfl
  generalize g0 : broadcastInDim S128x1024x1 ![0, 1] bcast_S128x1024_S128x1024x1_0_1
      (broadcastInDim S128x1024 ![0, 1] bcast_S128x1_S128x1024_0_1 (wrap bcast_S_S128x1 128#32 i0)) = w0
  generalize g1 : broadcastInDim S128x1024x1 ![0, 1] bcast_S128x1024_S128x1024x1_0_1
      (broadcastInDim S128x1024 ![] bcast_S_S128x1024 (constantI S_ 32 0#32)) = w1
  generalize g2 : broadcastInDim S128x1024x1 ![0, 1] bcast_S128x1024_S128x1024x1_0_1 (wrap bcast_S_S128x1024 1024#32 k) = w2
  have r0 : w0 (ix3 a p (0 : Fin 1)) = BitVec.ofNat 32 a.val := by
    rw [← g0, last, broadcastInDim_apply _ _ _ _ (ix2 a (0 : Fin 1)) fun q => by fin_cases q <;> rfl,
      wrap_word _ _ _ _ (by have := a.isLt; rw [e0, BitVec.toNat_ofNat]; omega), e0]
  have r1 : w1 (ix3 a p (0 : Fin 1)) = 0#32 := by rw [← g1, last]; rfl
  have r2 : w2 (ix3 a p (0 : Fin 1)) = k (ix2 a p) := by
    rw [← g2, last, wrap_word _ _ _ _ (by omega)]
  have joined : ∀ q : Fin 3, concatenate S128x1024x3 2 [⟨S128x1024x1, w0⟩, ⟨S128x1024x1, w1⟩, ⟨S128x1024x1, w2⟩]
      concatenates_S128x1024x1_S128x1024x1_S128x1024x1_S128x1024x3_d2 (ix3 a p q)
        = (![w0, w1, w2] : Fin 3 → IVec S128x1024x1 32) q (ix3 a p (0 : Fin 1)) := fun q =>
    concatenate_ofFn_unit_apply (t := S128x1024x3) (s₁ := S128x1024x1) 2 (![w0, w1, w2] : Fin 3 → IVec S128x1024x1 32)
      concatenates_S128x1024x1_S128x1024x1_S128x1024x1_S128x1024x3_d2 rfl rfl (ix3 a p q) q rfl
      (ix3 a p (0 : Fin 1)) fun b hb => by fin_cases b <;> first | rfl | exact absurd rfl hb
  exact ⟨(joined 0).trans r0, (joined 1).trans r1, (joined 2).trans r2⟩

/-- An update of the features' scatter lands at the element its three words name. -/
theorem lands3 (idx : IVec S128x128x1024x3 32) (a d a' d' : Fin 128) (p c : Fin 1024) :
    scatter_S128x128x1024_S128x128x1024x3_S128x128x1024_n_012_012_3.resultIdx? (ix3 a d p) idx = some (ix3 a' d' c)
      ↔ (idx (ix4 a d p (0 : Fin 3))).toInt = a'.val ∧ (idx (ix4 a d p (1 : Fin 3))).toInt = d'.val
        ∧ (idx (ix4 a d p (2 : Fin 3))).toInt = c.val := by
  have hs : ∀ q : Fin 3, scatter_S128x128x1024_S128x128x1024x3_S128x128x1024_n_012_012_3.start (ix3 a d p) idx q
      = (idx (ix4 a d p q)).toInt := fun q => by
    unfold ScatterDims.start
    rw [dif_pos (by fin_cases q <;> decide)]
    refine congrArg (fun j => (idx j).toInt) (funext fun b => ?_)
    fin_cases q <;> fin_cases b <;> rfl
  have hw : ∀ q : Fin 3, scatter_S128x128x1024_S128x128x1024x3_S128x128x1024_n_012_012_3.window (ix3 a d p) q = 0 := fun q => by
    fin_cases q <;> rfl
  rw [Routing.resultIdx?_eq_some]
  constructor
  · intro h
    have e : ∀ q : Fin 3, (idx (ix4 a d p q)).toInt + ((0 : ℕ) : ℤ) = (((ix3 a' d' c : S128x128x1024.Idx) q).val : ℤ) := fun q =>
      (congrArg₂ (fun (u : ℤ) (v : ℕ) => u + (v : ℤ)) (hs q) (hw q)).symm.trans (h q)
    simp only [Nat.cast_zero, add_zero] at e
    exact ⟨e 0, e 1, e 2⟩
  · rintro ⟨h0, h1, h2⟩ q
    match q with
    | ⟨0, _⟩ => exact (congrArg₂ (fun (u : ℤ) (v : ℕ) => u + (v : ℤ)) (hs 0) (hw 0)).trans (by simpa using h0)
    | ⟨1, _⟩ => exact (congrArg₂ (fun (u : ℤ) (v : ℕ) => u + (v : ℤ)) (hs 1) (hw 1)).trans (by simpa using h1)
    | ⟨2, _⟩ => exact (congrArg₂ (fun (u : ℤ) (v : ℕ) => u + (v : ℤ)) (hs 2) (hw 2)).trans (by simpa using h2)

/-- An update of the weights' scatter lands at the element its three words name. -/
theorem lands2 (idx : IVec S128x1024x3 32) (a a' : Fin 128) (z : Fin 1) (p c : Fin 1024) :
    scatter_S128x1x1024_S128x1024x3_S128x1024_n_012_012_2.resultIdx? (ix2 a p) idx = some (ix3 a' z c)
      ↔ (idx (ix3 a p (0 : Fin 3))).toInt = a'.val ∧ (idx (ix3 a p (1 : Fin 3))).toInt = z.val
        ∧ (idx (ix3 a p (2 : Fin 3))).toInt = c.val := by
  have hs : ∀ q : Fin 3, scatter_S128x1x1024_S128x1024x3_S128x1024_n_012_012_2.start (ix2 a p) idx q
      = (idx (ix3 a p q)).toInt := fun q => by
    unfold ScatterDims.start
    rw [dif_pos (by fin_cases q <;> decide)]
    refine congrArg (fun j => (idx j).toInt) (funext fun b => ?_)
    fin_cases q <;> fin_cases b <;> rfl
  have hw : ∀ q : Fin 3, scatter_S128x1x1024_S128x1024x3_S128x1024_n_012_012_2.window (ix2 a p) q = 0 := fun q => by
    fin_cases q <;> rfl
  rw [Routing.resultIdx?_eq_some]
  constructor
  · intro h
    have e : ∀ q : Fin 3, (idx (ix3 a p q)).toInt + ((0 : ℕ) : ℤ) = (((ix3 a' z c : S128x1x1024.Idx) q).val : ℤ) := fun q =>
      (congrArg₂ (fun (u : ℤ) (v : ℕ) => u + (v : ℤ)) (hs q) (hw q)).symm.trans (h q)
    simp only [Nat.cast_zero, add_zero] at e
    exact ⟨e 0, e 1, e 2⟩
  · rintro ⟨h0, h1, h2⟩ q
    match q with
    | ⟨0, _⟩ => exact (congrArg₂ (fun (u : ℤ) (v : ℕ) => u + (v : ℤ)) (hs 0) (hw 0)).trans (by simpa using h0)
    | ⟨1, _⟩ => exact (congrArg₂ (fun (u : ℤ) (v : ℕ) => u + (v : ℤ)) (hs 1) (hw 1)).trans (by simpa using h1)
    | ⟨2, _⟩ => exact (congrArg₂ (fun (u : ℤ) (v : ℕ) => u + (v : ℤ)) (hs 2) (hw 2)).trans (by simpa using h2)

/-- A word below `2 ^ 31`, read signed, is its number. -/
theorem toInt_small (b : BitVec 32) (h : b.toNat < 2 ^ 31) : b.toInt = (b.toNat : ℤ) := by
  rw [BitVec.toInt_eq_toNat_cond, if_pos (by omega)]

/-- So the word of a number below 1024 is the number. -/
theorem toInt_ofNat (n : ℕ) (h : n < 1024) : (BitVec.ofNat 32 n).toInt = (n : ℤ) := by
  have e : (BitVec.ofNat 32 n).toNat = n := by rw [BitVec.toNat_ofNat]; omega
  rw [toInt_small _ (by omega), e]

/-- The scattered features at an element: the base, and the updates of the points whose cell it is. -/
theorem scatter_world (base : FVec Ideal S128x128x1024 .f32) (k : IVec S128x1024 32) (hk : ∀ i, (k i).toNat < 1024)
    (upd : FVec Ideal S128x128x1024 .f32) (a d : Fin 128) (c : Fin 1024) :
    Host.scatterAdd scatter_S128x128x1024_S128x128x1024x3_S128x128x1024_n_012_012_3 base (triples k) upd (ix3 a d c)
      = (base (ix3 a d c) : EReal) + ∑ p : Fin 1024, if (k (ix2 a p)).toNat = c.val then (upd (ix3 a d p) : EReal) else 0 := by
  have hl : ∀ (a₁ d₁ : Fin 128) (p : Fin 1024),
      scatter_S128x128x1024_S128x128x1024x3_S128x128x1024_n_012_012_3.resultIdx? (ix3 a₁ d₁ p) (triples k) = some (ix3 a d c)
        ↔ a₁ = a ∧ d₁ = d ∧ (k (ix2 a₁ p)).toNat = c.val := fun a₁ d₁ p => by
    obtain ⟨t0, t1, t2⟩ := triples_apply k a₁ d₁ p (hk _)
    have hq := hk (ix2 a₁ p)
    rw [lands3, t0, t1, t2, toInt_ofNat _ (by omega), toInt_ofNat _ (by omega), toInt_small _ (by omega), Fin.ext_iff, Fin.ext_iff]
    omega
  show base (ix3 a d c) + _ = _
  refine congrArg (base (ix3 a d c) + ·) ?_
  rw [← Finset.sum_filter]
  refine Finset.sum_nbij' (fun j => j 2) (fun p => ix3 a d p) ?_ ?_ ?_ ?_ ?_
  · intro j hj
    obtain ⟨a₁, d₁, p, rfl⟩ : ∃ (a₁ d₁ : Fin 128) (p : Fin 1024), j = ix3 a₁ d₁ p := ⟨j 0, j 1, j 2, eq_ix3 j⟩
    obtain ⟨rfl, rfl, hc⟩ := (hl a₁ d₁ p).1 (Finset.mem_filter.1 hj).2
    exact Finset.mem_filter.2 ⟨Finset.mem_univ _, hc⟩
  · intro p hp
    exact Finset.mem_filter.2 ⟨Finset.mem_univ _, (hl a d p).2 ⟨rfl, rfl, (Finset.mem_filter.1 hp).2⟩⟩
  · intro j hj
    obtain ⟨a₁, d₁, p, rfl⟩ : ∃ (a₁ d₁ : Fin 128) (p : Fin 1024), j = ix3 a₁ d₁ p := ⟨j 0, j 1, j 2, eq_ix3 j⟩
    obtain ⟨rfl, rfl, hc⟩ := (hl a₁ d₁ p).1 (Finset.mem_filter.1 hj).2
    rfl
  · intro p _; rfl
  · intro j hj
    obtain ⟨a₁, d₁, p, rfl⟩ : ∃ (a₁ d₁ : Fin 128) (p : Fin 1024), j = ix3 a₁ d₁ p := ⟨j 0, j 1, j 2, eq_ix3 j⟩
    obtain ⟨rfl, rfl, hc⟩ := (hl a₁ d₁ p).1 (Finset.mem_filter.1 hj).2
    rfl

/-- The scattered weights at an element. -/
theorem scatter_weight (base : FVec Ideal S128x1x1024 .f32) (k : IVec S128x1024 32) (hk : ∀ i, (k i).toNat < 1024)
    (upd : FVec Ideal S128x1024 .f32) (a : Fin 128) (c : Fin 1024) :
    Host.scatterAdd scatter_S128x1x1024_S128x1024x3_S128x1024_n_012_012_2 base (pairs k) upd (ix3 a (0 : Fin 1) c)
      = (base (ix3 a (0 : Fin 1) c) : EReal) + ∑ p : Fin 1024, if (k (ix2 a p)).toNat = c.val then (upd (ix2 a p) : EReal) else 0 := by
  have hl : ∀ (a₁ : Fin 128) (p : Fin 1024),
      scatter_S128x1x1024_S128x1024x3_S128x1024_n_012_012_2.resultIdx? (ix2 a₁ p) (pairs k) = some (ix3 a (0 : Fin 1) c)
        ↔ a₁ = a ∧ (k (ix2 a₁ p)).toNat = c.val := fun a₁ p => by
    obtain ⟨t0, t1, t2⟩ := pairs_apply k a₁ p (hk _)
    have hq := hk (ix2 a₁ p)
    rw [lands2, t0, t1, t2, toInt_ofNat _ (by omega), toInt_ofNat 0 (by omega), toInt_small _ (by omega), Fin.ext_iff]
    show _ ∧ ((0 : ℕ) : ℤ) = ((0 : ℕ) : ℤ) ∧ _ ↔ _
    omega
  show base (ix3 a (0 : Fin 1) c) + _ = _
  refine congrArg (base (ix3 a (0 : Fin 1) c) + ·) ?_
  rw [← Finset.sum_filter]
  refine Finset.sum_nbij' (fun j => j 1) (fun p => ix2 a p) ?_ ?_ ?_ ?_ ?_
  · intro j hj
    obtain ⟨a₁, p, rfl⟩ : ∃ (a₁ : Fin 128) (p : Fin 1024), j = ix2 a₁ p := ⟨j 0, j 1, eq_ix2 j⟩
    obtain ⟨rfl, hc⟩ := (hl a₁ p).1 (Finset.mem_filter.1 hj).2
    exact Finset.mem_filter.2 ⟨Finset.mem_univ _, hc⟩
  · intro p hp
    exact Finset.mem_filter.2 ⟨Finset.mem_univ _, (hl a p).2 ⟨rfl, (Finset.mem_filter.1 hp).2⟩⟩
  · intro j hj
    obtain ⟨a₁, p, rfl⟩ : ∃ (a₁ : Fin 128) (p : Fin 1024), j = ix2 a₁ p := ⟨j 0, j 1, eq_ix2 j⟩
    obtain ⟨rfl, hc⟩ := (hl a₁ p).1 (Finset.mem_filter.1 hj).2
    rfl
  · intro p _; rfl
  · intro j hj
    obtain ⟨a₁, p, rfl⟩ : ∃ (a₁ : Fin 128) (p : Fin 1024), j = ix2 a₁ p := ⟨j 0, j 1, eq_ix2 j⟩
    obtain ⟨rfl, hc⟩ := (hl a₁ p).1 (Finset.mem_filter.1 hj).2
    rfl

end Cert.ReferenceIdeal.Splat
-- ==== Proof.RefRead.lean ====
/-
  The reference's two results read at an element, over the extended reals, as the same two functions of the arguments the
  kernel's results are read as (`worldAt`, `weightAt`).
-/
module

public import proofs.«01_k».proof.Proof.RefScatter

@[expose] public section

set_option maxRecDepth 16384

noncomputable section

open Idealize.ShloMosaic Idealize.ShloMosaic.TcCoe Idealize.SL.Sem
open Idealize.ShloMosaic.ValueIdx
open scoped Classical

namespace Cert.ReferenceIdeal.Splat

open Cert.ReferenceIdeal Cert.ReferenceIdeal.Gen Cert.Splat Cert.ReferenceIdeal.Read

/-- The row of pixel number `p` of a 32 by 32 image. -/
abbrev hi (p : Fin 1024) : Fin 32 := ⟨p.val / 32, by omega⟩
/-- The column of pixel number `p` of a 32 by 32 image. -/
abbrev lo (p : Fin 1024) : Fin 32 := ⟨p.val % 32, by omega⟩
/-- The number of the pixel in row `y` and column `x`. -/
abbrev pix (y x : Fin 32) : Fin 1024 := ⟨y.val * 32 + x.val, by omega⟩
/-- The row of frame `n` of batch `b` among the 128 frames. -/
abbrev bt (b : Fin 8) (n : Fin 16) : Fin 128 := ⟨b.val * 16 + n.val, by omega⟩

section Layout
variable {α : Type}

/-- One row of points per batch, repeated for the frames, all frames in one axis. -/
theorem frames_apply (v : S8x1x1024.Idx → α) (b : Fin 8) (n : Fin 16) (p : Fin 1024) :
    shapeCast S128x1024 (broadcastInDim S8x16x1024 ![0, 1, 2] bcast_S8x1x1024_S8x16x1024_0_1_2 v) shapeCasts_S8x16x1024_S128x1024
      (ix2 (bt b n) p) = v (ix3 b (0 : Fin 1) p) := by
  rw [shapeCast_apply _ _ _ (ix3 b n p) (by
    rw [Shape.rowMajor_val_three, Shape.rowMajor_val_two]; rfl)]
  exact broadcastInDim_apply _ _ _ _ (ix3 b (0 : Fin 1) p) fun q => by fin_cases q <;> rfl

/-- The points of an image in one axis. -/
theorem flat_apply (v : S8x32x32.Idx → α) (b : Fin 8) (p : Fin 1024) :
    shapeCast S8x1024 v shapeCasts_S8x32x32_S8x1024 (ix2 b p) = v (ix3 b (hi p) (lo p)) :=
  shapeCast_apply _ _ _ (ix3 b (hi p) (lo p)) (by
    rw [Shape.rowMajor_val_three, Shape.rowMajor_val_two]
    show (b.val * 32 + p.val / 32) * 32 + p.val % 32 = b.val * 1024 + p.val
    omega)

/-- The same, with a unit axis for the frames. -/
theorem flat1_apply (v : S8x32x32.Idx → α) (b : Fin 8) (p : Fin 1024) :
    shapeCast S8x1x1024 v shapeCasts_S8x32x32_S8x1x1024 (ix3 b (0 : Fin 1) p) = v (ix3 b (hi p) (lo p)) :=
  shapeCast_apply _ _ _ (ix3 b (hi p) (lo p)) (by
    rw [Shape.rowMajor_val_three, Shape.rowMajor_val_three]
    show (b.val * 32 + p.val / 32) * 32 + p.val % 32 = (b.val * 1 + 0) * 1024 + p.val
    omega)

end Layout

section Neighbour
variable (nx ny w : FVec Ideal S8x32x32 .f32)

/-- A point's cell word. -/
theorem cellV_apply (i : S8x32x32.Idx) : cellV nx ny i = cell (nx i) (ny i) := by
  rw [← cell_word, ← clip_int, ← clip_int]; rfl

/-- Every cell word is below 1024. -/
theorem cells_lt (i : S128x1024.Idx) : (cells nx ny i).toNat < 1024 := by
  have h : ∃ j, cells nx ny i = cellV nx ny j := ⟨_, rfl⟩
  obtain ⟨j, hj⟩ := h
  rw [hj, cellV_apply]
  exact cell_lt _ _

/-- The cell words by frame and point. -/
theorem cells_apply (b : Fin 8) (n : Fin 16) (p : Fin 1024) :
    cells nx ny (ix2 (bt b n) p) = cell (nx (ix3 b (hi p) (lo p))) (ny (ix3 b (hi p) (lo p))) := by
  unfold cells
  rw [frames_apply, broadcastInDim_apply _ _ _ _ (ix2 b p) fun q => by fin_cases q <;> rfl, flat_apply, cellV_apply]

/-- The weights by frame and point. -/
theorem weights_apply (b : Fin 8) (n : Fin 16) (p : Fin 1024) :
    weights nx ny w (ix2 (bt b n) p)
      = kept (nx (ix3 b (hi p) (lo p))) (ny (ix3 b (hi p) (lo p))) (w (ix3 b (hi p) (lo p))) := by
  unfold weights
  rw [frames_apply, flat1_apply]
  generalize ix3 b (hi p) (lo p) = i
  rw [← mul_bit, ← inside_bit]
  rfl

/-- What a neighbour of point `p` gives cell `c`. -/
abbrev partAt (b : Fin 8) (c : ℕ) (p : Fin 1024) : EReal :=
  if (cell (nx (ix3 b (hi p) (lo p))) (ny (ix3 b (hi p) (lo p)))).toNat = c
    then kept (nx (ix3 b (hi p) (lo p))) (ny (ix3 b (hi p) (lo p))) (w (ix3 b (hi p) (lo p))) else 0

/-- One more neighbour in the weights. -/
theorem addWeight_apply (base : FVec Ideal S128x1x1024 .f32) (b : Fin 8) (n : Fin 16) (c : Fin 1024) :
    addWeight nx ny w base (ix3 (bt b n) (0 : Fin 1) c)
      = (base (ix3 (bt b n) (0 : Fin 1) c) : EReal) + ∑ p : Fin 1024, partAt nx ny w b c.val p := by
  refine (scatter_weight base (cells nx ny) (cells_lt nx ny) (weights nx ny w) (bt b n) c).trans ?_
  simp only [cells_apply, weights_apply]

/-- One more neighbour in the features. -/
theorem addWorld_apply (f : FVec Ideal S8x16x128x1024 .f32) (base : FVec Ideal S128x128x1024 .f32)
    (b : Fin 8) (n : Fin 16) (d : Fin 128) (c : Fin 1024) :
    addWorld f nx ny w base (ix3 (bt b n) d c)
      = (base (ix3 (bt b n) d c) : EReal) + ∑ p : Fin 1024, (f (ix4 b n d p) : EReal) * partAt nx ny w b c.val p := by
  refine (scatter_world base (cells nx ny) (cells_lt nx ny) (weighted f (weights nx ny w)) (bt b n) d c).trans ?_
  refine congrArg (base (ix3 (bt b n) d c) + ·) (Finset.sum_congr rfl fun p _ => ?_)
  have e : (weighted f (weights nx ny w) (ix3 (bt b n) d p) : EReal)
      = f (ix4 b n d p) * kept (nx (ix3 b (hi p) (lo p))) (ny (ix3 b (hi p) (lo p))) (w (ix3 b (hi p) (lo p))) := by
    unfold weighted
    show shapeCast S128x128x1024 f shapeCasts_S8x16x128x1024_S128x128x1024 (ix3 (bt b n) d p)
      * broadcastInDim S128x128x1024 ![0, 1, 2] bcast_S128x1x1024_S128x128x1024_0_1_2
        (broadcastInDim S128x1x1024 ![0, 2] bcast_S128x1024_S128x1x1024_0_2 (weights nx ny w)) (ix3 (bt b n) d p) = _
    rw [shapeCast_apply _ _ _ (ix4 b n d p) (by
        rw [Shape.rowMajor_val_three, Shape.rowMajor_val_four]; rfl),
      broadcastInDim_apply _ _ _ _ (ix3 (bt b n) (0 : Fin 1) p) fun q => by fin_cases q <;> rfl,
      broadcastInDim_apply _ _ _ _ (ix2 (bt b n) p) fun q => by fin_cases q <;> rfl, weights_apply]
  rw [e, cells_apply]
  unfold partAt
  split
  · rfl
  · rw [mul_zero]

end Neighbour

variable (x0 : (⟨S8x16x128x32x32, .f32⟩ : BufTy).Contents (Elt Ideal)) (x1 : (⟨S8x32x32x2, .f32⟩ : BufTy).Contents (Elt Ideal))

/-- The first coordinate of point `p` of batch `b`, in grid units. -/
abbrev gridX (b : Fin 8) (p : Fin 1024) : EReal := grid (x1 (ix4 b (hi p) (lo p) (0 : Fin 2)))
/-- The second coordinate. -/
abbrev gridY (b : Fin 8) (p : Fin 1024) : EReal := grid (x1 (ix4 b (hi p) (lo p) (1 : Fin 2)))

/-- The reference's first coordinate in grid units. -/
theorem gx_apply (b : Fin 8) (p : Fin 1024) : val_main_v7 x1 (ix3 b (hi p) (lo p)) = gridX x1 b p := by
  have e : val_main_v1 x1 (ix3 b (hi p) (lo p)) = x1 (ix4 b (hi p) (lo p) (0 : Fin 2)) := by
    rw [val_main_v1_apply, val_main_v0_apply]
    refine congrArg x1 (funext fun a => Fin.ext ?_)
    have := b.isLt; have := p.isLt
    match a with
    | ⟨0, _⟩ => show ((b.val * 32 + p.val / 32) * 32 + p.val % 32) / 1024 = b.val; omega
    | ⟨1, _⟩ => show ((b.val * 32 + p.val / 32) * 32 + p.val % 32) / 32 % 32 = p.val / 32; omega
    | ⟨2, _⟩ => show ((b.val * 32 + p.val / 32) * 32 + p.val % 32) / 1 % 32 = p.val % 32; omega
    | ⟨3, _⟩ => rfl
  show Ideal.div (val_main_v1 x1 (ix3 b (hi p) (lo p)) - FloatOps.ofBits (F := Ideal) .f32 0xC1700000#32)
    (FloatOps.ofBits (F := Ideal) .f32 0x41F00000#32) * FloatOps.ofBits (F := Ideal) .f32 0x41F80000#32 = _
  rw [e, litm15, lit30, lit31, grid_div]

/-- The reference's second coordinate in grid units. -/
theorem gy_apply (b : Fin 8) (p : Fin 1024) : val_main_v15 x1 (ix3 b (hi p) (lo p)) = gridY x1 b p := by
  have e : val_main_v9 x1 (ix3 b (hi p) (lo p)) = x1 (ix4 b (hi p) (lo p) (1 : Fin 2)) := by
    rw [val_main_v9_apply, val_main_v8_apply]
    refine congrArg x1 (funext fun a => Fin.ext ?_)
    have := b.isLt; have := p.isLt
    match a with
    | ⟨0, _⟩ => show ((b.val * 32 + p.val / 32) * 32 + p.val % 32) / 1024 = b.val; omega
    | ⟨1, _⟩ => show ((b.val * 32 + p.val / 32) * 32 + p.val % 32) / 32 % 32 = p.val / 32; omega
    | ⟨2, _⟩ => show ((b.val * 32 + p.val / 32) * 32 + p.val % 32) / 1 % 32 = p.val % 32; omega
    | ⟨3, _⟩ => rfl
  show Ideal.div (val_main_v9 x1 (ix3 b (hi p) (lo p)) - FloatOps.ofBits (F := Ideal) .f32 0xC1700000#32)
    (FloatOps.ofBits (F := Ideal) .f32 0x41F00000#32) * FloatOps.ofBits (F := Ideal) .f32 0x41F80000#32 = _
  rw [e, litm15, lit30, lit31, grid_div]

/-- The neighbours' coordinates and weights on the first axis. -/
theorem x_axis (b : Fin 8) (p : Fin 1024) :
    val_main_v16 x1 (ix3 b (hi p) (lo p)) = nb false (gridX x1 b p) ∧ val_main_v19 x1 (ix3 b (hi p) (lo p)) = nb true (gridX x1 b p)
      ∧ val_main_v25 x1 (ix3 b (hi p) (lo p)) = wt false (gridX x1 b p) ∧ val_main_v22 x1 (ix3 b (hi p) (lo p)) = wt true (gridX x1 b p) := by
  rw [← gx_apply]
  refine ⟨rfl, ?_, ?_, rfl⟩
  · show _ + FloatOps.ofBits (F := Ideal) .f32 0x3F800000#32 = _
    rw [lit1]; rfl
  · show FloatOps.ofBits (F := Ideal) .f32 0x3F800000#32 - _ = _
    rw [lit1]; rfl

/-- The neighbours' coordinates and weights on the second axis. -/
theorem y_axis (b : Fin 8) (p : Fin 1024) :
    val_main_v17 x1 (ix3 b (hi p) (lo p)) = nb false (gridY x1 b p) ∧ val_main_v21 x1 (ix3 b (hi p) (lo p)) = nb true (gridY x1 b p)
      ∧ val_main_v27 x1 (ix3 b (hi p) (lo p)) = wt false (gridY x1 b p) ∧ val_main_v23 x1 (ix3 b (hi p) (lo p)) = wt true (gridY x1 b p) := by
  rw [← gy_apply]
  refine ⟨rfl, ?_, ?_, rfl⟩
  · show _ + FloatOps.ofBits (F := Ideal) .f32 0x3F800000#32 = _
    rw [lit1]; rfl
  · show FloatOps.ofBits (F := Ideal) .f32 0x3F800000#32 - _ = _
    rw [lit1]; rfl

/-- The four neighbours' parts. -/
theorem parts (b : Fin 8) (c : ℕ) (p : Fin 1024) :
    partAt (val_main_v16 x1) (val_main_v17 x1) (val_main_v28 x1) b c p = part false false c (gridX x1 b p) (gridY x1 b p)
      ∧ partAt (val_main_v19 x1) (val_main_v17 x1) (val_main_v29 x1) b c p = part true false c (gridX x1 b p) (gridY x1 b p)
      ∧ partAt (val_main_v16 x1) (val_main_v21 x1) (val_main_v30 x1) b c p = part false true c (gridX x1 b p) (gridY x1 b p)
      ∧ partAt (val_main_v19 x1) (val_main_v21 x1) (val_main_v31 x1) b c p = part true true c (gridX x1 b p) (gridY x1 b p) := by
  obtain ⟨a1, a2, a3, a4⟩ := x_axis x1 b p
  obtain ⟨b1, b2, b3, b4⟩ := y_axis x1 b p
  refine ⟨?_, ?_, ?_, ?_⟩ <;> unfold partAt
  · rw [show (val_main_v28 x1 (ix3 b (hi p) (lo p)) : EReal) = val_main_v25 x1 (ix3 b (hi p) (lo p)) * val_main_v27 x1 (ix3 b (hi p) (lo p)) from rfl,
      a1, b1, a3, b3]; rfl
  · rw [show (val_main_v29 x1 (ix3 b (hi p) (lo p)) : EReal) = val_main_v22 x1 (ix3 b (hi p) (lo p)) * val_main_v27 x1 (ix3 b (hi p) (lo p)) from rfl,
      a2, b1, a4, b3]; rfl
  · rw [show (val_main_v30 x1 (ix3 b (hi p) (lo p)) : EReal) = val_main_v25 x1 (ix3 b (hi p) (lo p)) * val_main_v23 x1 (ix3 b (hi p) (lo p)) from rfl,
      a1, b2, a3, b4]; rfl
  · rw [show (val_main_v31 x1 (ix3 b (hi p) (lo p)) : EReal) = val_main_v22 x1 (ix3 b (hi p) (lo p)) * val_main_v23 x1 (ix3 b (hi p) (lo p)) from rfl,
      a2, b2, a4, b4]; rfl

/-- The reference's weights at an element. -/
theorem weight_at (b : Fin 8) (n : Fin 16) (c : Fin 1024) :
    val_main_v328 x1 (ix3 (bt b n) (0 : Fin 1) c) = weightAt (gridX x1 b) (gridY x1 b) c.val := by
  rw [weight_eq]
  simp only [addWeight_apply, (parts x1 b c.val _).1, (parts x1 b c.val _).2.1, (parts x1 b c.val _).2.2.1, (parts x1 b c.val _).2.2.2]
  rw [show (val_main_v34 (F := Ideal) (ix3 (bt b n) (0 : Fin 1) c) : EReal) = 0 from lit0]
  rfl

/-- The reference's gathered features at an element. -/
theorem gather_at (b : Fin 8) (n : Fin 16) (d : Fin 128) (c : Fin 1024) :
    val_main_v310 x0 x1 (ix3 (bt b n) d c)
      = gatherAt (gridX x1 b) (gridY x1 b) (fun p => x0 (ix5 b n d (hi p) (lo p))) c.val := by
  have hf : ∀ p : Fin 1024, val_main_v32 x0 (ix4 b n d p) = x0 (ix5 b n d (hi p) (lo p)) := fun p =>
    shapeCast_apply _ _ _ (ix5 b n d (hi p) (lo p)) (by
      rw [Shape.rowMajor_val_five, Shape.rowMajor_val_four]
      show (((b.val * 16 + n.val) * 128 + d.val) * 32 + p.val / 32) * 32 + p.val % 32 = ((b.val * 16 + n.val) * 128 + d.val) * 1024 + p.val
      omega)
  rw [world_eq]
  simp only [addWorld_apply, hf, (parts x1 b c.val _).1, (parts x1 b c.val _).2.1, (parts x1 b c.val _).2.2.1, (parts x1 b c.val _).2.2.2]
  rw [show (val_main_v33 (F := Ideal) (ix3 (bt b n) d c) : EReal) = 0 from lit0]
  rfl

/-- The first result at an element. -/
theorem res0_at (b : Fin 8) (n : Fin 16) (d : Fin 128) (y x : Fin 32) :
    val_main_v332 x0 x1 (ix5 b n d y x)
      = worldAt (gridX x1 b) (gridY x1 b) (fun p => x0 (ix5 b n d (hi p) (lo p))) (pix y x).val := by
  have e : val_main_v332 x0 x1 (ix5 b n d y x) = val_main_v331 x0 x1 (ix3 (bt b n) d (pix y x)) :=
    shapeCast_apply _ _ _ (ix3 (bt b n) d (pix y x)) (by
      rw [Shape.rowMajor_val_five, Shape.rowMajor_val_three]
      show ((b.val * 16 + n.val) * 128 + d.val) * 1024 + (y.val * 32 + x.val) = (((b.val * 16 + n.val) * 128 + d.val) * 32 + y.val) * 32 + x.val
      omega)
  have e2 : val_main_v330 x1 (ix3 (bt b n) d (pix y x)) = max eps (val_main_v328 x1 (ix3 (bt b n) (0 : Fin 1) (pix y x))) :=
    broadcastInDim_apply _ _ (val_main_v329 x1) _ (ix3 (bt b n) (0 : Fin 1) (pix y x)) fun q => by fin_cases q <;> rfl
  rw [e]
  show Ideal.div (val_main_v310 x0 x1 (ix3 (bt b n) d (pix y x))) (val_main_v330 x1 (ix3 (bt b n) d (pix y x))) = _
  rw [e2, gather_at, weight_at]
  rfl

/-- The second result at an element. -/
theorem res1_at (b : Fin 8) (n : Fin 16) (y x : Fin 32) :
    val_main_v333 x1 (ix5 b n (0 : Fin 1) y x) = weightAt (gridX x1 b) (gridY x1 b) (pix y x).val :=
  (shapeCast_apply _ _ _ (ix3 (bt b n) (0 : Fin 1) (pix y x)) (by
    rw [Shape.rowMajor_val_five, Shape.rowMajor_val_three]
    show ((b.val * 16 + n.val) * 1 + 0) * 1024 + (y.val * 32 + x.val) = (((b.val * 16 + n.val) * 1 + 0) * 32 + y.val) * 32 + x.val
    omega)).trans (weight_at x1 b n (pix y x))

end Cert.ReferenceIdeal.Splat
-- ==== Proof.lean ====
/-
  The proof of `Cert.Claim`. `Proof/Splat.lean` holds the mathematics of the splat over the extended reals, `Proof/Words.lean`
  the literals and integer words; `Proof/Pieces.lean`, `Proof/Blocks.lean` and `Proof/KernelRead.lean` run the kernel and read
  its results at an element; `Proof/RefScatter.lean` and `Proof/RefRead.lean` do the same for the reference. Here the two
  readings meet.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Read
public import proofs.«01_k».proof.Proof.KernelRead
public import proofs.«01_k».proof.Proof.RefRead
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx

/-- The reference runs, its arguments end unchanged, and it has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The named scale is the rational its printed word was rounded from. -/
theorem scale_preserved : Cert.preserves_Kernel_KernelIdeal :=
  IdealRules.named_const.statement Cert.KernelIdeal.κ "cells_per_mm" .f32 0x3F844444#32 ((31 / 30 : ℝ) : EReal) rfl

section Meet
variable (m : (ℓ : Loc Cert.KernelIdeal.nD Cert.KernelIdeal.τ Cert.KernelIdeal.sig) → Buf (Elt Ideal) ℓ)
  (c : Dev Cert.KernelIdeal.nD)

/-- The kernel's first result is the reference's. -/
theorem world_agrees (x0 : Vec Ideal Cert.ReferenceIdeal.S8x16x128x32x32 .f32) (x1 : Vec Ideal Cert.ReferenceIdeal.S8x32x32x2 .f32)
    (h0 : x0 = m ((c.tc : Thread _ _).loc Cert.KernelIdeal.main_arg0)) (h1 : x1 = m ((c.tc : Thread _ _).loc Cert.KernelIdeal.main_arg1)) :
    Cert.ReferenceIdeal.Read.val_main_v332 (F := Ideal) x0 x1
      = Cert.KernelIdeal.Splat.res0 (F := Ideal) (Cert.KernelIdeal.Splat.world m c) := by
  subst h0 h1
  funext j
  obtain ⟨b, n, d, y, x, rfl⟩ : ∃ (b : Fin 8) (n : Fin 16) (d : Fin 128) (y x : Fin 32), j = ix5 b n d y x :=
    ⟨j 0, j 1, j 2, j 3, j 4, eq_ix5 j⟩
  exact (Cert.ReferenceIdeal.Splat.res0_at _ _ b n d y x).trans (Cert.KernelIdeal.Splat.res0_at m c b n d y x).symm

/-- The kernel's second result is the reference's. -/
theorem weights_agree (x1 : Vec Ideal Cert.ReferenceIdeal.S8x32x32x2 .f32)
    (h1 : x1 = m ((c.tc : Thread _ _).loc Cert.KernelIdeal.main_arg1)) :
    Cert.ReferenceIdeal.Read.val_main_v333 (F := Ideal) x1
      = Cert.KernelIdeal.Splat.res1 (F := Ideal) (Cert.KernelIdeal.Splat.rowsums m c) := by
  subst h1
  funext j
  obtain ⟨b, n, z, y, x, rfl⟩ : ∃ (b : Fin 8) (n : Fin 16) (z : Fin 1) (y x : Fin 32), j = ix5 b n z y x :=
    ⟨j 0, j 1, j 2, j 3, j 4, eq_ix5 j⟩
  obtain rfl : z = 0 := Subsingleton.elim _ _
  exact (Cert.ReferenceIdeal.Splat.res1_at _ b n y x).trans (Cert.KernelIdeal.Splat.res1_at m c b n y x).symm

end Meet

/-- Over the extended reals the kernel and the reference end with equal results. -/
theorem results_agree : Cert.algebraic_KernelIdeal_ReferenceIdeal := fun m g m' g' _ hag =>
  ⟨fun c => Cert.KernelIdeal.Splat.res0 (F := Ideal) (Cert.KernelIdeal.Splat.world m c),
   fun c => Cert.KernelIdeal.Splat.res1 (F := Ideal) (Cert.KernelIdeal.Splat.rowsums m c),
   Cert.KernelIdeal.Splat.run m g,
   (θ_run Cert.ReferenceIdeal.defs _ _).mono
    (fun _ h c =>
      ⟨((h c).1.trans (Cert.ReferenceIdeal.Read.val_main_v332_eq (StableHlo.launchContents m' c))).trans
        (world_agrees m c _ _ (hag c).1 (hag c).2),
       ((h c).2.1.trans (Cert.ReferenceIdeal.Read.val_main_v333_eq (StableHlo.launchContents m' c))).trans
        (weights_agree m c _ (hag c).2),
       (h c).2.2⟩)
    (Cert.ReferenceIdeal.Value.run (F := Ideal) m' g')⟩

/-- The certificate: the three programs run, the named constant is the intended one, and the results agree. -/
theorem claim : Cert.Claim :=
  ⟨Cert.Kernel.Gen.facts, Cert.KernelIdeal.Gen.facts, Cert.ReferenceIdeal.Gen.facts,
   fun m ρ _ => Cert.Kernel.Gen.frame m ρ, fun m ρ _ => Cert.KernelIdeal.Gen.frame m ρ, frame_reference, scale_preserved,
   results_agree⟩

end Cert.Proof

end
